-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_in_range : Cert.Pre_in_range.Facts) (hPre_finite : Cert.Pre_finite.Facts),
    quiescent_Kernel (hKernel := hKernel) (hPre_in_range := hPre_in_range)
    ∧ quiescent_KernelIdeal (hKernelIdeal := hKernelIdeal) (hPre_in_range := hPre_in_range)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x512x64x64 : Shape := ⟨4, ![4, 512, 64, 64]⟩
abbrev S2x4096 : Shape := ⟨2, ![2, 4096]⟩
abbrev S2x512 : Shape := ⟨2, ![2, 512]⟩
abbrev S64x64 : Shape := ⟨2, ![64, 64]⟩
abbrev S64 : Shape := ⟨1, ![64]⟩
abbrev S64x64x3 : Shape := ⟨3, ![64, 64, 3]⟩
abbrev S64x64x5 : Shape := ⟨3, ![64, 64, 5]⟩
abbrev S64x192 : Shape := ⟨2, ![64, 192]⟩
abbrev S_ : Shape := ⟨0, ![]⟩

class Facts : Prop where
  bcast_S_S2x4096 : S_.BroadcastsInDim S2x4096 (![] : Fin 0 → Fin S2x4096.rank)
  reducesTo_S2x4096_S_d0_1 : S2x4096.ReducesTo [0, 1] S_
  h_S_ : 0 < S_.numel
  bcast_S_S2x512 : S_.BroadcastsInDim S2x512 (![] : Fin 0 → Fin S2x512.rank)
  reducesTo_S2x512_S_d0_1 : S2x512.ReducesTo [0, 1] S_
  bcast_S_S4x512x64x64 : S_.BroadcastsInDim S4x512x64x64 (![] : Fin 0 → Fin S4x512x64x64.rank)
  reducesTo_S4x512x64x64_S_d0_1_2_3 : S4x512x64x64.ReducesTo [0, 1, 2, 3] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x64x3 : S_.BroadcastsInDim S64x64x3 (![] : Fin 0 → Fin S64x64x3.rank)
  reducesTo_S64x64x3_S_d0_1_2 : S64x64x3.ReducesTo [0, 1, 2] S_
  bcast_S_S64x64x5 : S_.BroadcastsInDim S64x64x5 (![] : Fin 0 → Fin S64x64x5.rank)
  reducesTo_S64x64x5_S_d0_1_2 : S64x64x5.ReducesTo [0, 1, 2] S_
  bcast_S_S64x192 : S_.BroadcastsInDim S64x192 (![] : Fin 0 → Fin S64x192.rank)
  reducesTo_S64x192_S_d0_1 : S64x192.ReducesTo [0, 1] S_

variable [Facts]

def fn_part3 {F : FTy → Type} [FloatOps F] (main_v47 : IVec S_ 1) (main_v50 : IVec S64x192 1) : IVec S_ 1 :=
  let main_c_19 : IVec S_ 1 := constantI S_ 1 1#1
  let main_v51 : IVec S_ 1 := (fun x v => Host.reduce IntOp.andi x v reducesTo_S64x192_S_d0_1 h_S_) main_v50 main_c_19
  let main_v52 : IVec S_ 1 := andi main_v47 main_v51
  main_v52

def fn_part2 {F : FTy → Type} [FloatOps F] (main_arg9 : FVec F S64x64x3 .f32) (main_arg10 : FVec F S64x64x5 .f32) (main_arg11 : FVec F S64x192 .f32) (main_v32 : IVec S_ 1) (main_v33 : FVec F S64 .f32) : IVec S_ 1 :=
  let main_cst_12 : FVec F S_ .f32 := constant S_ .f32 0x7F800000#32
  let main_v34 : FVec F S64 .f32 := broadcastInDim S64 ![] bcast_S_S64 main_cst_12
  let main_v35 : IVec S64 1 := cmpf .olt main_v33 main_v34
  let main_c_13 : IVec S_ 1 := constantI S_ 1 1#1
  let main_v36 : IVec S_ 1 := (fun x v => Host.reduce IntOp.andi x v reducesTo_S64_S_d0 h_S_) main_v35 main_c_13
  let main_v37 : IVec S_ 1 := andi main_v32 main_v36
  let main_v38 : FVec F S64x64x3 .f32 := Host.absf main_arg9
  let main_cst_14 : FVec F S_ .f32 := constant S_ .f32 0x7F800000#32
  let main_v39 : FVec F S64x64x3 .f32 := broadcastInDim S64x64x3 ![] bcast_S_S64x64x3 main_cst_14
  let main_v40 : IVec S64x64x3 1 := cmpf .olt main_v38 main_v39
  let main_c_15 : IVec S_ 1 := constantI S_ 1 1#1
  let main_v41 : IVec S_ 1 := (fun x v => Host.reduce IntOp.andi x v reducesTo_S64x64x3_S_d0_1_2 h_S_) main_v40 main_c_15
  let main_v42 : IVec S_ 1 := andi main_v37 main_v41
  let main_v43 : FVec F S64x64x5 .f32 := Host.absf main_arg10
  let main_cst_16 : FVec F S_ .f32 := constant S_ .f32 0x7F800000#32
  let main_v44 : FVec F S64x64x5 .f32 := broadcastInDim S64x64x5 ![] bcast_S_S64x64x5 main_cst_16
  let main_v45 : IVec S64x64x5 1 := cmpf .olt main_v43 main_v44
  let main_c_17 : IVec S_ 1 := constantI S_ 1 1#1
  let main_v46 : IVec S_ 1 := (fun x v => Host.reduce IntOp.andi x v reducesTo_S64x64x5_S_d0_1_2 h_S_) main_v45 main_c_17
  let main_v47 : IVec S_ 1 := andi main_v42 main_v46
  let main_v48 : FVec F S64x192 .f32 := Host.absf main_arg11
  let main_cst_18 : FVec F S_ .f32 := constant S_ .f32 0x7F800000#32
  let main_v49 : FVec F S64x192 .f32 := broadcastInDim S64x192 ![] bcast_S_S64x192 main_cst_18
  let main_v50 : IVec S64x192 1 := cmpf .olt main_v48 main_v49
  fn_part3 (F := F) main_v47 main_v50

def fn_part1 {F : FTy → Type} [FloatOps F] (main_arg3 : FVec F S64x64 .f32) (main_arg4 : FVec F S64x64 .f32) (main_arg6 : FVec F S64x64 .f32) (main_arg8 : FVec F S64 .f32) (main_arg9 : FVec F S64x64x3 .f32) (main_arg10 : FVec F S64x64x5 .f32) (main_arg11 : FVec F S64x192 .f32) (main_v12 : IVec S_ 1) (main_v15 : IVec S4x512x64x64 1) (main_c_5 : IVec S_ 1) : IVec S_ 1 :=
  let main_v16 : IVec S_ 1 := (fun x v => Host.reduce IntOp.andi x v reducesTo_S4x512x64x64_S_d0_1_2_3 h_S_) main_v15 main_c_5
  let main_v17 : IVec S_ 1 := andi main_v12 main_v16
  let main_v18 : FVec F S64x64 .f32 := Host.absf main_arg3
  let main_cst_6 : FVec F S_ .f32 := constant S_ .f32 0x7F800000#32
  let main_v19 : FVec F S64x64 .f32 := broadcastInDim S64x64 ![] bcast_S_S64x64 main_cst_6
  let main_v20 : IVec S64x64 1 := cmpf .olt main_v18 main_v19
  let main_c_7 : IVec S_ 1 := constantI S_ 1 1#1
  let main_v21 : IVec S_ 1 := (fun x v => Host.reduce IntOp.andi x v reducesTo_S64x64_S_d0_1 h_S_) main_v20 main_c_7
  let main_v22 : IVec S_ 1 := andi main_v17 main_v21
  let main_v23 : FVec F S64x64 .f32 := Host.absf main_arg4
  let main_cst_8 : FVec F S_ .f32 := constant S_ .f32 0x7F800000#32
  let main_v24 : FVec F S64x64 .f32 := broadcastInDim S64x64 ![] bcast_S_S64x64 main_cst_8
  let main_v25 : IVec S64x64 1 := cmpf .olt main_v23 main_v24
  let main_c_9 : IVec S_ 1 := constantI S_ 1 1#1
  let main_v26 : IVec S_ 1 := (fun x v => Host.reduce IntOp.andi x v reducesTo_S64x64_S_d0_1 h_S_) main_v25 main_c_9
  let main_v27 : IVec S_ 1 := andi main_v22 main_v26
  let main_v28 : FVec F S64x64 .f32 := Host.absf main_arg6
  let main_cst_10 : FVec F S_ .f32 := constant S_ .f32 0x7F800000#32
  let main_v29 : FVec F S64x64 .f32 := broadcastInDim S64x64 ![] bcast_S_S64x64 main_cst_10
  let main_v30 : IVec S64x64 1 := cmpf .olt main_v28 main_v29
  let main_c_11 : IVec S_ 1 := constantI S_ 1 1#1
  let main_v31 : IVec S_ 1 := (fun x v => Host.reduce IntOp.andi x v reducesTo_S64x64_S_d0_1 h_S_) main_v30 main_c_11
  let main_v32 : IVec S_ 1 := andi main_v27 main_v31
  let main_v33 : FVec F S64 .f32 := Host.absf main_arg8
  fn_part2 (F := F) main_arg9 main_arg10 main_arg11 main_v32 main_v33

def fn {F : FTy → Type} [FloatOps F] (main_arg0 : FVec F S4x512x64x64 .f32) (main_arg1 : IVec S2x4096 32) (main_arg2 : IVec S2x512 32) (main_arg3 : FVec F S64x64 .f32) (main_arg4 : FVec F S64x64 .f32) (main_arg5 : FVec F S64 .f32) (main_arg6 : FVec F S64x64 .f32) (main_arg7 : FVec F S64x64 .f32) (main_arg8 : FVec F S64 .f32) (main_arg9 : FVec F S64x64x3 .f32) (main_arg10 : FVec F S64x64x5 .f32) (main_arg11 : FVec F S64x192 .f32) (main_arg12 : FVec F S64 .f32) : IVec S_ 1 :=
  let main_c : IVec S_ 32 := constantI S_ 32 0#32
  let main_v0 : IVec S2x4096 32 := broadcastInDim S2x4096 ![] bcast_S_S2x4096 main_c
  let main_v1 : IVec S2x4096 1 := cmpi .sge main_arg1 main_v0
  let main_c_0 : IVec S_ 32 := constantI S_ 32 512#32
  let main_v2 : IVec S2x4096 32 := broadcastInDim S2x4096 ![] bcast_S_S2x4096 main_c_0
  let main_v3 : IVec S2x4096 1 := cmpi .slt main_arg1 main_v2
  let main_v4 : IVec S2x4096 1 := andi main_v1 main_v3
  let main_c_1 : IVec S_ 1 := constantI S_ 1 1#1
  let main_v5 : IVec S_ 1 := (fun x v => Host.reduce IntOp.andi x v reducesTo_S2x4096_S_d0_1 h_S_) main_v4 main_c_1
  let main_c_2 : IVec S_ 32 := constantI S_ 32 0#32
  let main_v6 : IVec S2x512 32 := broadcastInDim S2x512 ![] bcast_S_S2x512 main_c_2
  let main_v7 : IVec S2x512 1 := cmpi .sge main_arg2 main_v6
  let main_c_3 : IVec S_ 32 := constantI S_ 32 64#32
  let main_v8 : IVec S2x512 32 := broadcastInDim S2x512 ![] bcast_S_S2x512 main_c_3
  let main_v9 : IVec S2x512 1 := cmpi .slt main_arg2 main_v8
  let main_v10 : IVec S2x512 1 := andi main_v7 main_v9
  let main_c_4 : IVec S_ 1 := constantI S_ 1 1#1
  let main_v11 : IVec S_ 1 := (fun x v => Host.reduce IntOp.andi x v reducesTo_S2x512_S_d0_1 h_S_) main_v10 main_c_4
  let main_v12 : IVec S_ 1 := andi main_v5 main_v11
  let main_v13 : FVec F S4x512x64x64 .f32 := Host.absf main_arg0
  let main_cst : FVec F S_ .f32 := constant S_ .f32 0x7F800000#32
  let main_v14 : FVec F S4x512x64x64 .f32 := broadcastInDim S4x512x64x64 ![] bcast_S_S4x512x64x64 main_cst
  let main_v15 : IVec S4x512x64x64 1 := cmpf .olt main_v13 main_v14
  let main_c_5 : IVec S_ 1 := constantI S_ 1 1#1
  fn_part1 (F := F) main_arg3 main_arg4 main_arg6 main_arg8 main_arg9 main_arg10 main_arg11 main_v12 main_v15 main_c_5
-- ==== Pre_in_range.lean ====
abbrev S4x512x64x64 : Shape := ⟨4, ![4, 512, 64, 64]⟩
abbrev S2x4096 : Shape := ⟨2, ![2, 4096]⟩
abbrev S2x512 : Shape := ⟨2, ![2, 512]⟩
abbrev S64x64 : Shape := ⟨2, ![64, 64]⟩
abbrev S64 : Shape := ⟨1, ![64]⟩
abbrev S64x64x3 : Shape := ⟨3, ![64, 64, 3]⟩
abbrev S64x64x5 : Shape := ⟨3, ![64, 64, 5]⟩
abbrev S64x192 : Shape := ⟨2, ![64, 192]⟩
abbrev S_ : Shape := ⟨0, ![]⟩

class Facts : Prop where
  bcast_S_S2x4096 : S_.BroadcastsInDim S2x4096 (![] : Fin 0 → Fin S2x4096.rank)
  reducesTo_S2x4096_S_d0_1 : S2x4096.ReducesTo [0, 1] S_
  h_S_ : 0 < S_.numel
  bcast_S_S2x512 : S_.BroadcastsInDim S2x512 (![] : Fin 0 → Fin S2x512.rank)
  reducesTo_S2x512_S_d0_1 : S2x512.ReducesTo [0, 1] S_

variable [Facts]

def fn {F : FTy → Type} [FloatOps F] (main_arg0 : FVec F S4x512x64x64 .f32) (main_arg1 : IVec S2x4096 32) (main_arg2 : IVec S2x512 32) (main_arg3 : FVec F S64x64 .f32) (main_arg4 : FVec F S64x64 .f32) (main_arg5 : FVec F S64 .f32) (main_arg6 : FVec F S64x64 .f32) (main_arg7 : FVec F S64x64 .f32) (main_arg8 : FVec F S64 .f32) (main_arg9 : FVec F S64x64x3 .f32) (main_arg10 : FVec F S64x64x5 .f32) (main_arg11 : FVec F S64x192 .f32) (main_arg12 : FVec F S64 .f32) : IVec S_ 1 :=
  let main_c : IVec S_ 32 := constantI S_ 32 0#32
  let main_v0 : IVec S2x4096 32 := broadcastInDim S2x4096 ![] bcast_S_S2x4096 main_c
  let main_v1 : IVec S2x4096 1 := cmpi .sge main_arg1 main_v0
  let main_c_0 : IVec S_ 32 := constantI S_ 32 512#32
  let main_v2 : IVec S2x4096 32 := broadcastInDim S2x4096 ![] bcast_S_S2x4096 main_c_0
  let main_v3 : IVec S2x4096 1 := cmpi .slt main_arg1 main_v2
  let main_v4 : IVec S2x4096 1 := andi main_v1 main_v3
  let main_c_1 : IVec S_ 1 := constantI S_ 1 1#1
  let main_v5 : IVec S_ 1 := (fun x v => Host.reduce IntOp.andi x v reducesTo_S2x4096_S_d0_1 h_S_) main_v4 main_c_1
  let main_c_2 : IVec S_ 32 := constantI S_ 32 0#32
  let main_v6 : IVec S2x512 32 := broadcastInDim S2x512 ![] bcast_S_S2x512 main_c_2
  let main_v7 : IVec S2x512 1 := cmpi .sge main_arg2 main_v6
  let main_c_3 : IVec S_ 32 := constantI S_ 32 64#32
  let main_v8 : IVec S2x512 32 := broadcastInDim S2x512 ![] bcast_S_S2x512 main_c_3
  let main_v9 : IVec S2x512 1 := cmpi .slt main_arg2 main_v8
  let main_v10 : IVec S2x512 1 := andi main_v7 main_v9
  let main_c_4 : IVec S_ 1 := constantI S_ 1 1#1
  let main_v11 : IVec S_ 1 := (fun x v => Host.reduce IntOp.andi x v reducesTo_S2x512_S_d0_1 h_S_) main_v10 main_c_4
  let main_v12 : IVec S_ 1 := andi main_v5 main_v11
  main_v12
-- ==== Kernel.lean ====
abbrev S4x512x64x64 : Shape := ⟨4, ![4, 512, 64, 64]⟩
abbrev S2x4096 : Shape := ⟨2, ![2, 4096]⟩
abbrev S2x512 : Shape := ⟨2, ![2, 512]⟩
abbrev S64x64 : Shape := ⟨2, ![64, 64]⟩
abbrev S64 : Shape := ⟨1, ![64]⟩
abbrev S64x64x3 : Shape := ⟨3, ![64, 64, 3]⟩
abbrev S64x64x5 : Shape := ⟨3, ![64, 64, 5]⟩
abbrev S64x192 : Shape := ⟨2, ![64, 192]⟩
abbrev S262144 : Shape := ⟨1, ![262144]⟩
abbrev S4096 : Shape := ⟨1, ![4096]⟩
abbrev S8192 : Shape := ⟨1, ![8192]⟩
abbrev S128 : Shape := ⟨1, ![128]⟩
abbrev S_ : Shape := ⟨0, ![]⟩
abbrev S16 : Shape := ⟨1, ![16]⟩
abbrev S1x16 : Shape := ⟨2, ![1, 16]⟩
abbrev S512x512 : Shape := ⟨2, ![512, 512]⟩
abbrev S4x512x4096 : Shape := ⟨3, ![4, 512, 4096]⟩
abbrev S1x64 : Shape := ⟨2, ![1, 64]⟩
abbrev S128x64 : Shape := ⟨2, ![128, 64]⟩
abbrev S3x64x64 : Shape := ⟨3, ![3, 64, 64]⟩
abbrev S5x64x64 : Shape := ⟨3, ![5, 64, 64]⟩
abbrev S1x512x4096 : Shape := ⟨3, ![1, 512, 4096]⟩
abbrev S1x128x64x64 : Shape := ⟨4, ![1, 128, 64, 64]⟩
abbrev S128x512 : Shape := ⟨2, ![128, 512]⟩
abbrev S8x64x64 : Shape := ⟨3, ![8, 64, 64]⟩
abbrev S1x64x64 : Shape := ⟨3, ![1, 64, 64]⟩
abbrev S64x1 : Shape := ⟨2, ![64, 1]⟩
abbrev S128x64x64 : Shape := ⟨3, ![128, 64, 64]⟩
abbrev S8192x64 : Shape := ⟨2, ![8192, 64]⟩
abbrev S512x4096 : Shape := ⟨2, ![512, 4096]⟩
abbrev S128x4096 : Shape := ⟨2, ![128, 4096]⟩
abbrev S128x1x1 : Shape := ⟨3, ![128, 1, 1]⟩
abbrev S8192x1 : Shape := ⟨2, ![8192, 1]⟩
abbrev S2x64 : Shape := ⟨2, ![2, 64]⟩
abbrev S8190x64 : Shape := ⟨2, ![8190, 64]⟩
abbrev S8191x64 : Shape := ⟨2, ![8191, 64]⟩
abbrev S64x128x64 : Shape := ⟨3, ![64, 128, 64]⟩
abbrev S64x8192 : Shape := ⟨2, ![64, 8192]⟩
abbrev S128x8192 : Shape := ⟨2, ![128, 8192]⟩

abbrev nBuf : Table → Nat
  | .hbm => 28
  | .local .tc .vmem => 21
  | .local .scVector .vmem => 4
  | _ => 0

abbrev bufTy : (tb : Table) → Fin (nBuf tb) → BufTy
  | .hbm, ⟨0, _⟩ => ⟨S4x512x64x64, .f32⟩
  | .hbm, ⟨1, _⟩ => ⟨S2x4096, .i32⟩
  | .hbm, ⟨2, _⟩ => ⟨S2x512, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64x3, .f32⟩
  | .hbm, ⟨10, _⟩ => ⟨S64x64x5, .f32⟩
  | .hbm, ⟨11, _⟩ => ⟨S64x192, .f32⟩
  | .hbm, ⟨12, _⟩ => ⟨S64, .f32⟩
  | .hbm, ⟨13, _⟩ => ⟨S262144, .f32⟩
  | .hbm, ⟨14, _⟩ => ⟨S4096, .f32⟩
  | .hbm, ⟨15, _⟩ => ⟨S512x512, .f32⟩
  | .hbm, ⟨16, _⟩ => ⟨S64x64, .f32⟩
  | .hbm, ⟨17, _⟩ => ⟨S4x512x4096, .f32⟩
  | .hbm, ⟨18, _⟩ => ⟨S1x64, .f32⟩
  | .hbm, ⟨19, _⟩ => ⟨S128x64, .f32⟩
  | .hbm, ⟨20, _⟩ => ⟨S1x64, .f32⟩
  | .hbm, ⟨21, _⟩ => ⟨S3x64x64, .f32⟩
  | .hbm, ⟨22, _⟩ => ⟨S5x64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S1x64, .f32⟩
  | .hbm, ⟨27, _⟩ => ⟨S4x512x64x64, .f32⟩
  | .local .tc .vmem, ⟨0, _⟩ => ⟨S1x512x4096, .f32⟩
  | .local .tc .vmem, ⟨1, _⟩ => ⟨S1x512x4096, .f32⟩
  | .local .tc .vmem, ⟨2, _⟩ => ⟨S1x128x64x64, .f32⟩
  | .local .tc .vmem, ⟨3, _⟩ => ⟨S1x128x64x64, .f32⟩
  | .local .tc .vmem, ⟨4, _⟩ => ⟨S128x512, .f32⟩
  | .local .tc .vmem, ⟨5, _⟩ => ⟨S128x512, .f32⟩
  | .local .tc .vmem, ⟨6, _⟩ => ⟨S64x64, .f32⟩
  | .local .tc .vmem, ⟨7, _⟩ => ⟨S64x64, .f32⟩
  | .local .tc .vmem, ⟨8, _⟩ => ⟨S64x64, .f32⟩
  | .local .tc .vmem, ⟨9, _⟩ => ⟨S1x64, .f32⟩
  | .local .tc .vmem, ⟨10, _⟩ => ⟨S128x64, .f32⟩
  | .local .tc .vmem, ⟨11, _⟩ => ⟨S1x64, .f32⟩
  | .local .tc .vmem, ⟨12, _⟩ => ⟨S3x64x64, .f32⟩
  | .local .tc .vmem, ⟨13, _⟩ => ⟨S5x64x64, .f32⟩
  | .local .tc .vmem, ⟨14, _⟩ => ⟨S64x64, .f32⟩
  | .local .tc .vmem, ⟨15, _⟩ => ⟨S64x64, .f32⟩
  | .local .tc .vmem, ⟨16, _⟩ => ⟨S64x64, .f32⟩
  | .local .tc .vmem, ⟨17, _⟩ => ⟨S1x64, .f32⟩
  | .local .tc .vmem, ⟨18, _⟩ => ⟨S1x128x64x64, .f32⟩
  | .local .tc .vmem, ⟨19, _⟩ => ⟨S1x128x64x64, .f32⟩
  | .local .tc .vmem, ⟨20, _⟩ => ⟨S8x64x64, .f32⟩
  | .local .scVector .vmem, ⟨0, _⟩ => ⟨S2x4096, .i32⟩
  | .local .scVector .vmem, ⟨1, _⟩ => ⟨S2x512, .i32⟩
  | .local .scVector .vmem, ⟨2, _⟩ => ⟨S8192, .f32⟩
  | .local .scVector .vmem, ⟨3, _⟩ => ⟨S128, .f32⟩
  | _, _ => ⟨S4x512x64x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_arg1_scv : Ref sig .scVector := ⟨.hbm, 1, rfl⟩
abbrev main_arg2_scv : Ref sig .scVector := ⟨.hbm, 2, rfl⟩
abbrev main_v0_0_scv : Ref sig .scVector := ⟨.hbm, 13, rfl⟩
abbrev main_v0_1_scv : Ref sig .scVector := ⟨.hbm, 14, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg9_0 : Ref sig .tc := ⟨.vmem, 12, rfl⟩
abbrev cc1_stg10_0 : Ref sig .tc := ⟨.vmem, 13, rfl⟩
abbrev cc1_stg11_0 : Ref sig .tc := ⟨.vmem, 14, rfl⟩
abbrev cc1_stg12_0 : Ref sig .tc := ⟨.vmem, 15, rfl⟩
abbrev cc1_stg13_0 : Ref sig .tc := ⟨.vmem, 16, rfl⟩
abbrev cc1_stg14_0 : Ref sig .tc := ⟨.vmem, 17, rfl⟩
abbrev cc1_stg15_0 : Ref sig .tc := ⟨.vmem, 18, rfl⟩
abbrev cc1_stg15_1 : Ref sig .tc := ⟨.vmem, 19, rfl⟩
abbrev cc1_scratch0 : Ref sig .tc := ⟨.vmem, 20, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem13_0 : DmaSem sig := 20
abbrev cc1_sem14_0 : DmaSem sig := 21
abbrev cc1_sem15_0 : DmaSem sig := 22
abbrev cc1_sem15_1 : DmaSem sig := 23
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_2 : BitVec 32 := 0#32
  let c512_i32 : BitVec 32 := 512#32
  let v6 : BitVec 32 := Scalar.addi c0_i32_2 c512_i32
  let c1_i32 : BitVec 32 := 1#32
  ⟨c0_i32_2, v6, c1_i32⟩
def k0_off1 (k0_t1 : Fin k0_t1_loop.trips) : Fin 1 → Nat :=
  let c0_i32_2 : BitVec 32 := 0#32
  let c1_i32 : BitVec 32 := 1#32
  let arg10 : BitVec 32 := Scf.iv c0_i32_2 c1_i32 k0_t1
  let c16_i32_17 : BitVec 32 := 16#32
  let v12 : BitVec 32 := Scalar.muli arg10 c16_i32_17
  let v13 : Index := Scalar.indexCast v12
  ![v13.toNat]
@[reducible] def k0_t2_loop : Scf.Loop 32 :=
  let c0_i32_5 : BitVec 32 := 0#32
  let c8_i32 : BitVec 32 := 8#32
  let v7 : BitVec 32 := Scalar.addi c0_i32_5 c8_i32
  let c1_i32_6 : BitVec 32 := 1#32
  ⟨c0_i32_5, v7, c1_i32_6⟩
def k0_off2 (k0_t2 : Fin k0_t2_loop.trips) : Fin 1 → Nat :=
  let c0_i32_5 : BitVec 32 := 0#32
  let c1_i32_6 : BitVec 32 := 1#32
  let arg10 : BitVec 32 := Scf.iv c0_i32_5 c1_i32_6 k0_t2
  let c16_i32_17 : BitVec 32 := 16#32
  let v12 : BitVec 32 := Scalar.muli arg10 c16_i32_17
  let v13 : Index := Scalar.indexCast v12
  ![v13.toNat]
@[reducible] def k0_t3_loop : Scf.Loop 32 :=
  let c0_i32_9 : BitVec 32 := 0#32
  let c256_i32 : BitVec 32 := 256#32
  let v8 : BitVec 32 := Scalar.addi c0_i32_9 c256_i32
  let c1_i32_10 : BitVec 32 := 1#32
  ⟨c0_i32_9, v8, c1_i32_10⟩
def k0_off3 (k0_t3 : Fin k0_t3_loop.trips) : Fin 2 → Nat :=
  let c0_i32_18 : BitVec 32 := 0#32
  let v13 : Index := Scalar.indexCast c0_i32_18
  let c0_i32_9 : BitVec 32 := 0#32
  let c1_i32_10 : BitVec 32 := 1#32
  let arg10 : BitVec 32 := Scf.iv c0_i32_9 c1_i32_10 k0_t3
  let c16_i32_17 : BitVec 32 := 16#32
  let v12 : BitVec 32 := Scalar.muli arg10 c16_i32_17
  let v14 : Index := Scalar.indexCast v12
  ![0, v14.toNat]
def k0_off4 (k0_t3 : Fin k0_t3_loop.trips) : Fin 2 → Nat :=
  let c1_i32_20 : BitVec 32 := 1#32
  let v17 : Index := Scalar.indexCast c1_i32_20
  let c0_i32_9 : BitVec 32 := 0#32
  let c1_i32_10 : BitVec 32 := 1#32
  let arg10 : BitVec 32 := Scf.iv c0_i32_9 c1_i32_10 k0_t3
  let c16_i32_19 : BitVec 32 := 16#32
  let v16 : BitVec 32 := Scalar.muli arg10 c16_i32_19
  let v18 : Index := Scalar.indexCast v16
  ![1, v18.toNat]

def k0_chk1 (v32 : IVec S16 32) : Prop :=
  (∀ a x, ((![v32] : Fin 1 → IVec S16 32) a x).toNat < S8192.size a)
theorem k0_idx1_inb : ∀ (v32 : IVec S16 32) (k0_hw1 : k0_chk1 v32), ∀ a x, ((![v32] : Fin 1 → IVec S16 32) a x).toNat < S8192.size a := fun v32 k0_hw1 => k0_hw1
@[reducible] def k0_t4_loop : Scf.Loop 32 :=
  let c0_i32_13 : BitVec 32 := 0#32
  let c32_i32 : BitVec 32 := 32#32
  let v9 : BitVec 32 := Scalar.addi c0_i32_13 c32_i32
  let c1_i32_14 : BitVec 32 := 1#32
  ⟨c0_i32_13, v9, c1_i32_14⟩
def k0_off5 (k0_t4 : Fin k0_t4_loop.trips) : Fin 2 → Nat :=
  let c0_i32_18 : BitVec 32 := 0#32
  let v13 : Index := Scalar.indexCast c0_i32_18
  let c0_i32_13 : BitVec 32 := 0#32
  let c1_i32_14 : BitVec 32 := 1#32
  let arg10 : BitVec 32 := Scf.iv c0_i32_13 c1_i32_14 k0_t4
  let c16_i32_17 : BitVec 32 := 16#32
  let v12 : BitVec 32 := Scalar.muli arg10 c16_i32_17
  let v14 : Index := Scalar.indexCast v12
  ![0, v14.toNat]
def k0_off6 (k0_t4 : Fin k0_t4_loop.trips) : Fin 2 → Nat :=
  let c1_i32_20 : BitVec 32 := 1#32
  let v17 : Index := Scalar.indexCast c1_i32_20
  let c0_i32_13 : BitVec 32 := 0#32
  let c1_i32_14 : BitVec 32 := 1#32
  let arg10 : BitVec 32 := Scf.iv c0_i32_13 c1_i32_14 k0_t4
  let c16_i32_19 : BitVec 32 := 16#32
  let v16 : BitVec 32 := Scalar.muli arg10 c16_i32_19
  let v18 : Index := Scalar.indexCast v16
  ![1, v18.toNat]

def k0_chk2 (v32 : IVec S16 32) : Prop :=
  (∀ a x, ((![v32] : Fin 1 → IVec S16 32) a x).toNat < S128.size a)
theorem k0_idx2_inb : ∀ (v32 : IVec S16 32) (k0_hw2 : k0_chk2 v32), ∀ a x, ((![v32] : Fin 1 → IVec S16 32) a x).toNat < S128.size a := fun v32 k0_hw2 => k0_hw2
def k0_off7 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c512_i32_16 : BitVec 32 := 512#32
  let v10 : BitVec 32 := Scalar.muli v2 c512_i32_16
  ![v10.toNat]
def k0_off8 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let c64_i32 : BitVec 32 := 64#32
  let v11 : BitVec 32 := Scalar.muli v3 c64_i32
  ![v11.toNat]
abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x128x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S128x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S3x64x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S5x64x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S64x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S64x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S64x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 1 → Memref sig .tc .vmem S1x64 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false]

abbrev stage1_15 : Fin 2 → Memref sig .tc .vmem S1x128x64x64 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x512x64x64 : Shape := ⟨4, ![4, 512, 64, 64]⟩
abbrev S2x4096 : Shape := ⟨2, ![2, 4096]⟩
abbrev S2x512 : Shape := ⟨2, ![2, 512]⟩
abbrev S64x64 : Shape := ⟨2, ![64, 64]⟩
abbrev S64 : Shape := ⟨1, ![64]⟩
abbrev S64x64x3 : Shape := ⟨3, ![64, 64, 3]⟩
abbrev S64x64x5 : Shape := ⟨3, ![64, 64, 5]⟩
abbrev S64x192 : Shape := ⟨2, ![64, 192]⟩
abbrev S4x64x512x64 : Shape := ⟨4, ![4, 64, 512, 64]⟩
abbrev S256x512x64 : Shape := ⟨3, ![256, 512, 64]⟩
abbrev S1x4096 : Shape := ⟨2, ![1, 4096]⟩
abbrev S4096 : Shape := ⟨1, ![4096]⟩
abbrev S_ : Shape := ⟨0, ![]⟩
abbrev S4096x1 : Shape := ⟨2, ![4096, 1]⟩
abbrev S256x4096x64 : Shape := ⟨3, ![256, 4096, 64]⟩
abbrev S512 : Shape := ⟨1, ![512]⟩
abbrev S1x512x1 : Shape := ⟨3, ![1, 512, 1]⟩
abbrev S1x1x64 : Shape := ⟨3, ![1, 1, 64]⟩
abbrev S2048x64x64 : Shape := ⟨3, ![2048, 64, 64]⟩
abbrev S1x512 : Shape := ⟨2, ![1, 512]⟩
abbrev S512x1 : Shape := ⟨2, ![512, 1]⟩
abbrev S2048x512x64 : Shape := ⟨3, ![2048, 512, 64]⟩
abbrev S1x64x1 : Shape := ⟨3, ![1, 64, 1]⟩
abbrev S2048x66x64 : Shape := ⟨3, ![2048, 66, 64]⟩
abbrev S64x64x1 : Shape := ⟨3, ![64, 64, 1]⟩
abbrev S2048x68x64 : Shape := ⟨3, ![2048, 68, 64]⟩
abbrev S4x512x64x192 : Shape := ⟨4, ![4, 512, 64, 192]⟩
abbrev S192x64 : Shape := ⟨2, ![192, 64]⟩
abbrev S1x1x1x64 : Shape := ⟨4, ![1, 1, 1, 64]⟩

abbrev nBuf : Space → Nat
  | .hbm => 185
  | .vmem => 0
  | .smem => 0
  | _ => 0

abbrev hbmTy0_0 (i : Nat) : BufTy := match i % 128 with
  | 0 => ⟨S4x512x64x64, .f32⟩
  | 1 => ⟨S2x4096, .i32⟩
  | 2 => ⟨S2x512, .i32⟩
  | 3 => ⟨S64x64, .f32⟩
  | 4 => ⟨S64x64, .f32⟩
  | 5 => ⟨S64, .f32⟩
  | 6 => ⟨S64x64, .f32⟩
  | 7 => ⟨S64x64, .f32⟩
  | 8 => ⟨S64, .f32⟩
  | 9 => ⟨S64x64x3, .f32⟩
  | 10 => ⟨S64x64x5, .f32⟩
  | 11 => ⟨S64x192, .f32⟩
  | 12 => ⟨S64, .f32⟩
  | 13 => ⟨S4x64x512x64, .f32⟩
  | 14 => ⟨S256x512x64, .f32⟩
  | 15 => ⟨S1x4096, .i32⟩
  | 16 => ⟨S4096, .i32⟩
  | 17 => ⟨S1x4096, .i32⟩
  | 18 => ⟨S4096, .i32⟩
  | 19 => ⟨S_, .i32⟩
  | 20 => ⟨S4096, .i32⟩
  | 21 => ⟨S4096, .i1⟩
  | 22 => ⟨S_, .i32⟩
  | 23 => ⟨S4096, .i32⟩
  | 24 => ⟨S4096, .i32⟩
  | 25 => ⟨S4096, .i32⟩
  | 26 => ⟨S4096x1, .i32⟩
  | 27 => ⟨S256x4096x64, .f32⟩
  | 28 => ⟨S_, .f32⟩
  | 29 => ⟨S256x512x64, .f32⟩
  | 30 => ⟨S_, .i32⟩
  | 31 => ⟨S4096, .i32⟩
  | 32 => ⟨S4096, .i1⟩
  | 33 => ⟨S_, .i32⟩
  | 34 => ⟨S4096, .i32⟩
  | 35 => ⟨S4096, .i32⟩
  | 36 => ⟨S4096, .i32⟩
  | 37 => ⟨S4096x1, .i32⟩
  | 38 => ⟨S256x512x64, .f32⟩
  | 39 => ⟨S_, .f32⟩
  | 40 => ⟨S512, .f32⟩
  | 41 => ⟨S_, .i32⟩
  | 42 => ⟨S4096, .i32⟩
  | 43 => ⟨S4096, .i1⟩
  | 44 => ⟨S_, .i32⟩
  | 45 => ⟨S4096, .i32⟩
  | 46 => ⟨S4096, .i32⟩
  | 47 => ⟨S4096, .i32⟩
  | 48 => ⟨S4096x1, .i32⟩
  | 49 => ⟨S_, .f32⟩
  | 50 => ⟨S4096, .f32⟩
  | 51 => ⟨S512, .f32⟩
  | 52 => ⟨S_, .f32⟩
  | 53 => ⟨S512, .f32⟩
  | 54 => ⟨S512, .f32⟩
  | 55 => ⟨S1x512x1, .f32⟩
  | 56 => ⟨S256x512x64, .f32⟩
  | 57 => ⟨S256x512x64, .f32⟩
  | 58 => ⟨S64x64, .f32⟩
  | 59 => ⟨S256x512x64, .f32⟩
  | 60 => ⟨S64x64, .f32⟩
  | 61 => ⟨S256x512x64, .f32⟩
  | 62 => ⟨S256x512x64, .f32⟩
  | 63 => ⟨S1x1x64, .f32⟩
  | 64 => ⟨S256x512x64, .f32⟩
  | 65 => ⟨S256x512x64, .f32⟩
  | 66 => ⟨S4x64x512x64, .f32⟩
  | 67 => ⟨S4x512x64x64, .f32⟩
  | 68 => ⟨S4x512x64x64, .f32⟩
  | 69 => ⟨S2048x64x64, .f32⟩
  | 70 => ⟨S1x512, .i32⟩
  | 71 => ⟨S512, .i32⟩
  | 72 => ⟨S1x512, .i32⟩
  | 73 => ⟨S512, .i32⟩
  | 74 => ⟨S_, .i32⟩
  | 75 => ⟨S512, .i32⟩
  | 76 => ⟨S512, .i1⟩
  | 77 => ⟨S_, .i32⟩
  | 78 => ⟨S512, .i32⟩
  | 79 => ⟨S512, .i32⟩
  | 80 => ⟨S512, .i32⟩
  | 81 => ⟨S512x1, .i32⟩
  | 82 => ⟨S2048x512x64, .f32⟩
  | 83 => ⟨S_, .f32⟩
  | 84 => ⟨S2048x64x64, .f32⟩
  | 85 => ⟨S_, .i32⟩
  | 86 => ⟨S512, .i32⟩
  | 87 => ⟨S512, .i1⟩
  | 88 => ⟨S_, .i32⟩
  | 89 => ⟨S512, .i32⟩
  | 90 => ⟨S512, .i32⟩
  | 91 => ⟨S512, .i32⟩
  | 92 => ⟨S512x1, .i32⟩
  | 93 => ⟨S2048x64x64, .f32⟩
  | 94 => ⟨S_, .f32⟩
  | 95 => ⟨S64, .f32⟩
  | 96 => ⟨S_, .i32⟩
  | 97 => ⟨S512, .i32⟩
  | 98 => ⟨S512, .i1⟩
  | 99 => ⟨S_, .i32⟩
  | 100 => ⟨S512, .i32⟩
  | 101 => ⟨S512, .i32⟩
  | 102 => ⟨S512, .i32⟩
  | 103 => ⟨S512x1, .i32⟩
  | 104 => ⟨S_, .f32⟩
  | 105 => ⟨S512, .f32⟩
  | 106 => ⟨S64, .f32⟩
  | 107 => ⟨S_, .f32⟩
  | 108 => ⟨S64, .f32⟩
  | 109 => ⟨S64, .f32⟩
  | 110 => ⟨S1x64x1, .f32⟩
  | 111 => ⟨S2048x64x64, .f32⟩
  | 112 => ⟨S2048x64x64, .f32⟩
  | 113 => ⟨S64x64, .f32⟩
  | 114 => ⟨S2048x64x64, .f32⟩
  | 115 => ⟨S64x64, .f32⟩
  | 116 => ⟨S2048x64x64, .f32⟩
  | 117 => ⟨S2048x64x64, .f32⟩
  | 118 => ⟨S1x1x64, .f32⟩
  | 119 => ⟨S2048x64x64, .f32⟩
  | 120 => ⟨S2048x64x64, .f32⟩
  | 121 => ⟨S4x512x64x64, .f32⟩
  | 122 => ⟨S4x512x64x64, .f32⟩
  | 123 => ⟨S2048x64x64, .f32⟩
  | 124 => ⟨S_, .i32⟩
  | 125 => ⟨S_, .f32⟩
  | 126 => ⟨S2048x66x64, .f32⟩
  | 127 => ⟨S2048x64x64, .f32⟩
  | _ => ⟨S4x512x64x64, .f32⟩

abbrev hbmTy0_1 (i : Nat) : BufTy := match i % 128 with
  | 0 => ⟨S64x64x1, .f32⟩
  | 1 => ⟨S64x64, .f32⟩
  | 2 => ⟨S64x64, .f32⟩
  | 3 => ⟨S2048x64x64, .f32⟩
  | 4 => ⟨S2048x64x64, .f32⟩
  | 5 => ⟨S64x64x1, .f32⟩
  | 6 => ⟨S64x64, .f32⟩
  | 7 => ⟨S64x64, .f32⟩
  | 8 => ⟨S2048x64x64, .f32⟩
  | 9 => ⟨S2048x64x64, .f32⟩
  | 10 => ⟨S2048x64x64, .f32⟩
  | 11 => ⟨S64x64x1, .f32⟩
  | 12 => ⟨S64x64, .f32⟩
  | 13 => ⟨S64x64, .f32⟩
  | 14 => ⟨S2048x64x64, .f32⟩
  | 15 => ⟨S2048x64x64, .f32⟩
  | 16 => ⟨S_, .i32⟩
  | 17 => ⟨S_, .f32⟩
  | 18 => ⟨S2048x68x64, .f32⟩
  | 19 => ⟨S2048x64x64, .f32⟩
  | 20 => ⟨S64x64x1, .f32⟩
  | 21 => ⟨S64x64, .f32⟩
  | 22 => ⟨S64x64, .f32⟩
  | 23 => ⟨S2048x64x64, .f32⟩
  | 24 => ⟨S2048x64x64, .f32⟩
  | 25 => ⟨S64x64x1, .f32⟩
  | 26 => ⟨S64x64, .f32⟩
  | 27 => ⟨S64x64, .f32⟩
  | 28 => ⟨S2048x64x64, .f32⟩
  | 29 => ⟨S2048x64x64, .f32⟩
  | 30 => ⟨S2048x64x64, .f32⟩
  | 31 => ⟨S64x64x1, .f32⟩
  | 32 => ⟨S64x64, .f32⟩
  | 33 => ⟨S64x64, .f32⟩
  | 34 => ⟨S2048x64x64, .f32⟩
  | 35 => ⟨S2048x64x64, .f32⟩
  | 36 => ⟨S2048x64x64, .f32⟩
  | 37 => ⟨S64x64x1, .f32⟩
  | 38 => ⟨S64x64, .f32⟩
  | 39 => ⟨S64x64, .f32⟩
  | 40 => ⟨S2048x64x64, .f32⟩
  | 41 => ⟨S2048x64x64, .f32⟩
  | 42 => ⟨S2048x64x64, .f32⟩
  | 43 => ⟨S64x64x1, .f32⟩
  | 44 => ⟨S64x64, .f32⟩
  | 45 => ⟨S64x64, .f32⟩
  | 46 => ⟨S2048x64x64, .f32⟩
  | 47 => ⟨S2048x64x64, .f32⟩
  | 48 => ⟨S2048x64x64, .f32⟩
  | 49 => ⟨S4x512x64x64, .f32⟩
  | 50 => ⟨S4x512x64x192, .f32⟩
  | 51 => ⟨S192x64, .f32⟩
  | 52 => ⟨S4x512x64x64, .f32⟩
  | 53 => ⟨S1x1x1x64, .f32⟩
  | 54 => ⟨S4x512x64x64, .f32⟩
  | 55 => ⟨S4x512x64x64, .f32⟩
  | 56 => ⟨S4x512x64x64, .f32⟩
  | _ => ⟨S4x512x64x64, .f32⟩

abbrev hbmTy (i : Nat) : BufTy := match i / 128 with
  | 0 => hbmTy0_0 i
  | 1 => hbmTy0_1 i
  | _ => ⟨S4x512x64x64, .f32⟩

abbrev bufTy : (tb : Table) → Fin (tcTables nBuf tb) → BufTy
  | .hbm, ⟨i, _⟩ => hbmTy i
  | _, _ => ⟨S4x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_6 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_8 : Ref sig .tc := ⟨.hbm, 74, rfl⟩
abbrev main_v51 : Ref sig .tc := ⟨.hbm, 75, rfl⟩
abbrev main_v52 : Ref sig .tc := ⟨.hbm, 76, rfl⟩
abbrev main_c_9 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_c_11 : Ref sig .tc := ⟨.hbm, 85, rfl⟩
abbrev main_v59 : Ref sig .tc := ⟨.hbm, 86, rfl⟩
abbrev main_v60 : Ref sig .tc := ⟨.hbm, 87, rfl⟩
abbrev main_c_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_13 : Ref sig .tc := ⟨.hbm, 94, rfl⟩
abbrev main_v66 : Ref sig .tc := ⟨.hbm, 95, rfl⟩
abbrev main_c_14 : Ref sig .tc := ⟨.hbm, 96, rfl⟩
abbrev main_v67 : Ref sig .tc := ⟨.hbm, 97, rfl⟩
abbrev main_v68 : Ref sig .tc := ⟨.hbm, 98, rfl⟩
abbrev main_c_15 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_16 : Ref sig .tc := ⟨.hbm, 104, rfl⟩
abbrev main_v73 : Ref sig .tc := ⟨.hbm, 105, rfl⟩
abbrev main_v74 : Ref sig .tc := ⟨.hbm, 106, rfl⟩
abbrev main_cst_17 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_c_18 : Ref sig .tc := ⟨.hbm, 124, rfl⟩
abbrev main_call0_v0 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_c_19 : Ref sig .tc := ⟨.hbm, 144, rfl⟩
abbrev main_call1_v0 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩

abbrev nD : Nat := 1
abbrev τ : Topo := Topo.v7x

variable {F : FTy → Type} [FloatOps F]
-- ==== Proof.Setup.lean ====
/-
  The adjacency call as the SparseCore launch sees it: its thirty-two tasks (two SparseCores, sixteen vector subcores
  each), the resource algebra, the arrays and scratch buffers of a task, and the pure value a task computes: an
  accumulator updated by one masked scatter-add per group of sixteen edges.
-/
module

public import proofs.«01_k».proof.Defs
public import Idealize.ShloMosaic.Lib.SparseCore.Quiescent
public import Idealize.ShloMosaic.Lib.SparseCore.Ops
public import Idealize.ShloMosaic.Lib.SparseCore.ProtocolKit
public import Idealize.ShloMosaic.Lib.ShareLeaves
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Adj

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf)

variable {F : FTy → Type}

/-! ## The program as the launch theorem sees it -/

/-- The labels of the program with its pipeline. -/
abbrev ΛP : Labels := Pipeline.Sig Λ₀ (Fin 1) fun p => (pcfgs (F := F) p).Adm
/-- The SparseCore's launch. -/
abbrev K : SparseCore.Cfg τ sig (ΛP (F := F)) 1 := sc (F := F)
/-- The program with its pipeline. -/
abbrev D [FloatOps F] : Defs nD τ sig (Elt F) (ΛP (F := F)) := Pipeline.defs pcfgs defs₀
/-- No variants below the pipeline. -/
abbrev 𝒱₀ : Variants := Variants.none
/-- The variants of the whole program. -/
abbrev 𝒱 : Variants := 𝒱₀.lift
/-- The one variant in use. -/
abbrev v₀ : 𝒱.V := Sum.inl none

/-- The call's cells and buffers are placed as the launch asks: its four semaphores distinct and unscoped where they live, no task buffer shared. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the rounds of the second call's staging, the transfers' counters -/

/-- The launch's own camera. -/
abbrev UH : Type := URounds (GSem nD τ sig) ℕ
/-- The cameras of the launch and the pipeline together. -/
abbrev UU : Type := UH × (UR sig nD τ × Counters)

local notation "𝕄" => MT nD τ sig (HIx 1) (Elt F) ℕ UU ℕ

/-- The launch's camera within the two. -/
abbrev EH : Emb UH (MT nD τ sig (HIx 1) (Elt F) ℕ UU ℕ) := embL

/-- The staging cells' rounds: the left of the right component. -/
abbrev EP : Emb (UR sig nD τ) (MT nD τ sig (HIx 1) (Elt F) ℕ UU ℕ) :=
  (Emb.inl : Emb (UR sig nD τ) (UR sig nD τ × Counters)).trans embR

/-- The pipeline's camera lies in the upper part. -/
instance EP_landsIn : (EP : Emb (UR sig nD τ) 𝕄).LandsIn (upEmb : UEmb _ 𝕄) := inferInstance

/-! ## The arrays -/

variable (m : (ℓ : Loc nD τ sig) → Buf (Elt F) ℓ)

/-- Where the graph's edge list lies. -/
abbrev eLoc (d : Dev nD) : Loc nD τ sig := (SparseCore.T d).loc main_arg1
/-- Where the feature graph's edge list lies. -/
abbrev gLoc (d : Dev nD) : Loc nD τ sig := (SparseCore.T d).loc main_arg2
/-- Where the first count table lies. -/
abbrev aLoc (d : Dev nD) : Loc nD τ sig := (SparseCore.T d).loc main_v0_0
/-- Where the second count table lies. -/
abbrev bLoc (d : Dev nD) : Loc nD τ sig := (SparseCore.T d).loc main_v0_1

/-! ## The value a task computes -/

section Value

variable [FloatOps F]

/-- Sixteen words of an edge list: the sixteen edges of group `k`, on row `r` (0: sources, 1: destinations). -/
def grp {n : Nat} (e : (⟨2, ![2, n]⟩ : Shape).Idx → Elt F .i32) (r : Fin 2) (k : Nat) (h : 16 * k + 16 ≤ n) : Vec F S1x16 .i32 :=
  fun x => e (fun | 0 => r | 1 => ⟨16 * k + (x 1).val, by have : (x 1).val < 16 := (x 1).isLt
                                                          show _ < n; omega⟩)

/-- One group of the first graph's edges: the destinations of this task's rows each add one at their row and source. -/
def stepA (i : grid0.Coords) (e : S2x4096.Idx → Elt F .i32) (k : Nat) (g : Vec F S8192 .f32) : Vec F S8192 .f32 :=
  if hk : 16 * k + 16 ≤ 4096 then
    if h : k0_chk1 (k0_pay5 i (grp e 0 k hk) (grp e 1 k hk)) then
      storeIdx g ![k0_pay5 i (grp e 0 k hk) (grp e 1 k hk)] (k0_pay2 (F := F)) (k0_pay4 i (grp e 1 k hk)) true (k0_idx1_inb _ h)
    else g
  else g

/-- The first accumulator after `k` groups. -/
def accA (i : grid0.Coords) (e : S2x4096.Idx → Elt F .i32) : Nat → Vec F S8192 .f32
  | 0 => fun _ => Scalar.ofBits .f32 0x00000000#32
  | k + 1 => stepA i e k (accA i e k)

/-- One group of the second graph's edges. -/
def stepB (i : grid0.Coords) (e : S2x512.Idx → Elt F .i32) (k : Nat) (g : Vec F S128 .f32) : Vec F S128 .f32 :=
  if hk : 16 * k + 16 ≤ 512 then
    if h : k0_chk2 (k0_pay8 i (grp e 0 k hk) (grp e 1 k hk)) then
      storeIdx g ![k0_pay8 i (grp e 0 k hk) (grp e 1 k hk)] (k0_pay2 (F := F)) (k0_pay7 i (grp e 1 k hk)) true (k0_idx2_inb _ h)
    else g
  else g

/-- The second accumulator after `k` groups. -/
def accB (i : grid0.Coords) (e : S2x512.Idx → Elt F .i32) : Nat → Vec F S128 .f32
  | 0 => fun _ => Scalar.ofBits .f32 0x00000000#32
  | k + 1 => stepB i e k (accB i e k)

/-- The task numbered `w`: its core and its subcore. -/
def coordsOf (w : Fin 32) : grid0.Coords := fun
  | 0 => ⟨w.val % 2, Nat.mod_lt _ (by decide)⟩
  | 1 => ⟨w.val / 2, by have := w.isLt; show w.val / 2 < 16; omega⟩

/-- The first result: each row the accumulator of the task that owns it. -/
def outA (e : S2x4096.Idx → Elt F .i32) : S262144.Idx → Elt F .f32 := fun j =>
  accA (coordsOf ⟨(j 0).val / 8192, by have : (j 0).val < 262144 := (j 0).isLt; omega⟩) e 256
    (fun | 0 => ⟨(j 0).val % 8192, Nat.mod_lt _ (by decide)⟩)

/-- The second result. -/
def outB (e : S2x512.Idx → Elt F .i32) : S4096.Idx → Elt F .f32 := fun j =>
  accB (coordsOf ⟨(j 0).val / 128, by have : (j 0).val < 4096 := (j 0).isLt; omega⟩) e 32
    (fun | 0 => ⟨(j 0).val % 128, Nat.mod_lt _ (by decide)⟩)

end Value

/-! ## What the proof asks of the edge lists -/

/-- Every word of the two edge lists names a node. -/
def PreOK : Prop := ∀ d : Dev nD, (∀ j : S2x4096.Idx, (m (eLoc d) j).toNat < 512) ∧ ∀ j : S2x512.Idx, (m (gLoc d) j).toNat < 64

end Cert.Proof.Adj

end
-- ==== Proof.Lanes.lean ====
/-
  The lanes of one masked scatter-add, in natural numbers: which lanes are on, and the place in the accumulator each of
  them adds to.
-/
module

public import proofs.«01_k».proof.Proof.Setup
public import Idealize.ShloMosaic.Lib.WordArith
public import Idealize.ShloMosaic.Lib.ValueLayout

@[expose] public section

@[expose] public section

noncomputable section

namespace Cert.Proof.Adj

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf)

variable {F : FTy → Type}

local notation "𝕄" => MT nD τ sig (HIx 1) (Elt F) ℕ UU ℕ

variable (m : (ℓ : Loc nD τ sig) → Buf (Elt F) ℓ)

/-- The number of a task: subcores first, then cores. -/
abbrev widN (i : grid0.Coords) : Nat := (i 1).val * 2 + (i 0).val

/-- A tile's number is below 32. -/
theorem widN_lt (i : grid0.Coords) : widN i < 32 := by
  have h0 : (i 0).val < 2 := (i 0).isLt
  have h1 : (i 1).val < 16 := (i 1).isLt
  unfold widN; omega

/-- The first row a task owns, as a word. -/
theorem base_toNat (i : grid0.Coords) (r : Nat) (hr : r ≤ 16) :
    (Scalar.muli (Scalar.addi (Scalar.muli (BitVec.ofNat 32 (i 1).val) 2#32) (BitVec.ofNat 32 (i 0).val)) (BitVec.ofNat 32 r)).toNat = widN i * r := by
  have h0 : (i 0).val < 2 := (i 0).isLt
  have h1 : (i 1).val < 16 := (i 1).isLt
  have hw := widN_lt i
  have hm : widN i * r ≤ 31 * 16 := Nat.mul_le_mul (by omega) hr
  have e1 : (Scalar.addi (Scalar.muli (BitVec.ofNat 32 (i 1).val) 2#32) (BitVec.ofNat 32 (i 0).val)).toNat = widN i := by
    show (((BitVec.ofNat 32 (i 1).val) * 2#32) + (BitVec.ofNat 32 (i 0).val)).toNat = widN i
    rw [BitVec.toNat_add, BitVec.toNat_mul, BitVec.toNat_ofNat, BitVec.toNat_ofNat, BitVec.toNat_ofNat]
    unfold widN
    omega
  show ((Scalar.addi (Scalar.muli (BitVec.ofNat 32 (i 1).val) 2#32) (BitVec.ofNat 32 (i 0).val)) * (BitVec.ofNat 32 r)).toNat = widN i * r
  rw [BitVec.toNat_mul, e1, BitVec.toNat_ofNat, Nat.mod_eq_of_lt (by omega : r < 2 ^ 32), Nat.mod_eq_of_lt (by omega)]

/-- Whether a destination word lies among the `r` rows from `w` on. -/
theorem mask_word (w d rb : BitVec 32) (hw : w.toNat ≤ 512) (hd : d.toNat < 512) (hr : rb.toNat ≤ 16) :
    IntOp.andi (IntOp.cmpi .sge d w) (IntOp.cmpi .slt d (IntOp.addi w rb)) = 1#1 ↔ w.toNat ≤ d.toNat ∧ d.toNat < w.toNat + rb.toNat := by
  have hs : (IntOp.addi w rb).toNat = w.toNat + rb.toNat := by
    show (w + rb).toNat = _
    rw [BitVec.toNat_add]; omega
  have i1 : d.toInt = d.toNat := BitVec.toInt_eq_toNat_of_lt (by omega)
  have i2 : w.toInt = w.toNat := BitVec.toInt_eq_toNat_of_lt (by omega)
  have i3 : (IntOp.addi w rb).toInt = w.toNat + rb.toNat := by rw [BitVec.toInt_eq_toNat_of_lt (by omega), hs]; push_cast; rfl
  simp only [IntOp.cmpi, WordArith.andi_ofBool, WordArith.ofBool_eq_one_iff, Bool.and_eq_true]
  rw [BitVec.sle_iff_toInt_le, BitVec.slt_iff_toInt_lt, i1, i2, i3]
  omega

/-- The place of an edge in the accumulator, its destination among the task's rows. -/
theorem place_word (w d s cb : BitVec 32) (hd : d.toNat < 512) (hs : s.toNat < 512) (hc : cb.toNat ≤ 512) (hwd : w.toNat ≤ d.toNat) :
    (IntOp.addi (IntOp.muli (IntOp.subi d w) cb) s).toNat = (d.toNat - w.toNat) * cb.toNat + s.toNat := by
  have e1 : (d - w).toNat = d.toNat - w.toNat := BitVec.toNat_sub_of_le (BitVec.le_def.mpr hwd)
  have hm : (d.toNat - w.toNat) * cb.toNat ≤ 511 * 512 := Nat.mul_le_mul (by omega) hc
  show ((d - w) * cb + s).toNat = _
  rw [BitVec.toNat_add, BitVec.toNat_mul, e1, Nat.mod_eq_of_lt (by omega : (d.toNat - w.toNat) * cb.toNat < 2 ^ 32), Nat.mod_eq_of_lt (by omega)]

/-- The lane of a loaded row of sixteen words. -/
abbrev at16 (x : S16.Idx) : S1x16.Idx := fun | 0 => (0 : Fin 1) | 1 => x 0

/-- A row of sixteen words, read as a vector, at a lane. -/
theorem row_at (v : Vec F S1x16 .i32) (x : S16.Idx) : shapeCast S16 v shapeCasts_S1x16_S16 x = v (at16 x) := by
  have hx : x = ValueIdx.ix1 (x 0) := funext fun a => by rw [Fin.eq_zero a]
  have e := ValueIdx.shapeCast_1a_a_apply (a := 16) v shapeCasts_S1x16_S16 (x 0)
  refine (congrArg (shapeCast S16 v shapeCasts_S1x16_S16) hx).trans (e.trans (congrArg v ?_))
  funext a
  match a with
  | 0 => rfl
  | 1 => rfl

/-- The mask of a lane, first graph: the destination is one of the task's sixteen rows. -/
theorem maskA (i : grid0.Coords) (e1 : Vec F S1x16 .i32) (x : S16.Idx) (h1 : (e1 (at16 x)).toNat < 512) :
    k0_pay4 i e1 x = 1#1 ↔ widN i * 16 ≤ (e1 (at16 x)).toNat ∧ (e1 (at16 x)).toNat < widN i * 16 + 16 := by
  have hb := base_toNat i 16 (by omega)
  have hw := widN_lt i
  have h := mask_word (Scalar.muli (Scalar.addi (Scalar.muli (BitVec.ofNat 32 (i 1).val) 2#32) (BitVec.ofNat 32 (i 0).val)) 16#32) (e1 (at16 x)) 16#32
    (by rw [hb]; omega) h1 (by decide)
  rw [hb] at h
  rw [← row_at e1 x] at h ⊢
  exact h

/-- The place of a lane, first graph. -/
theorem placeA (i : grid0.Coords) (e0 e1 : Vec F S1x16 .i32) (x : S16.Idx) (h0 : (e0 (at16 x)).toNat < 512) (h1 : (e1 (at16 x)).toNat < 512) :
    (k0_pay5 i e0 e1 x).toNat = if widN i * 16 ≤ (e1 (at16 x)).toNat ∧ (e1 (at16 x)).toNat < widN i * 16 + 16 then
      ((e1 (at16 x)).toNat - widN i * 16) * 512 + (e0 (at16 x)).toNat else 0 := by
  have hb := base_toNat i 16 (by omega)
  split
  · rename_i hm
    have h := place_word (Scalar.muli (Scalar.addi (Scalar.muli (BitVec.ofNat 32 (i 1).val) 2#32) (BitVec.ofNat 32 (i 0).val)) 16#32) (e1 (at16 x)) (e0 (at16 x)) 512#32
      h1 h0 (by decide) (by rw [hb]; exact hm.1)
    rw [hb] at h
    refine Eq.trans ?_ h
    show BitVec.toNat (w := 32) (Scalar.select (α := BitVec 32) (k0_pay4 i e1 x) _ _) = _
    rw [(maskA i e1 x h1).mpr hm, ← row_at e0, ← row_at e1]
    rfl
  · rename_i hm
    show BitVec.toNat (w := 32) (Scalar.select (α := BitVec 32) (k0_pay4 i e1 x) _ _) = _
    rw [Scalar.select, if_neg (fun h : _ = 1 => hm ((maskA i e1 x h1).mp h))]
    rfl

/-- The mask of a lane, second graph: the destination is one of the task's two rows. -/
theorem maskB (i : grid0.Coords) (e1 : Vec F S1x16 .i32) (x : S16.Idx) (h1 : (e1 (at16 x)).toNat < 64) :
    k0_pay7 i e1 x = 1#1 ↔ widN i * 2 ≤ (e1 (at16 x)).toNat ∧ (e1 (at16 x)).toNat < widN i * 2 + 2 := by
  have hb := base_toNat i 2 (by omega)
  have hw := widN_lt i
  have h := mask_word (Scalar.muli (Scalar.addi (Scalar.muli (BitVec.ofNat 32 (i 1).val) 2#32) (BitVec.ofNat 32 (i 0).val)) 2#32) (e1 (at16 x)) 2#32
    (by rw [hb]; omega) (by omega) (by decide)
  rw [hb] at h
  rw [← row_at e1 x] at h ⊢
  exact h

/-- The place of a lane, second graph. -/
theorem placeB (i : grid0.Coords) (e0 e1 : Vec F S1x16 .i32) (x : S16.Idx) (h0 : (e0 (at16 x)).toNat < 64) (h1 : (e1 (at16 x)).toNat < 64) :
    (k0_pay8 i e0 e1 x).toNat = if widN i * 2 ≤ (e1 (at16 x)).toNat ∧ (e1 (at16 x)).toNat < widN i * 2 + 2 then
      ((e1 (at16 x)).toNat - widN i * 2) * 64 + (e0 (at16 x)).toNat else 0 := by
  have hb := base_toNat i 2 (by omega)
  split
  · rename_i hm
    have h := place_word (Scalar.muli (Scalar.addi (Scalar.muli (BitVec.ofNat 32 (i 1).val) 2#32) (BitVec.ofNat 32 (i 0).val)) 2#32) (e1 (at16 x)) (e0 (at16 x)) 64#32
      (by omega) (by omega) (by decide) (by rw [hb]; exact hm.1)
    rw [hb] at h
    refine Eq.trans ?_ h
    show BitVec.toNat (w := 32) (Scalar.select (α := BitVec 32) (k0_pay7 i e1 x) _ _) = _
    rw [(maskB i e1 x h1).mpr hm, ← row_at e0, ← row_at e1]
    rfl
  · rename_i hm
    show BitVec.toNat (w := 32) (Scalar.select (α := BitVec 32) (k0_pay7 i e1 x) _ _) = _
    rw [Scalar.select, if_neg (fun h : _ = 1 => hm ((maskB i e1 x h1).mp h))]
    rfl

/-- Words below 512 scatter inside the first accumulator. -/
theorem chkA (i : grid0.Coords) (e0 e1 : Vec F S1x16 .i32) (h0 : ∀ x, (e0 x).toNat < 512) (h1 : ∀ x, (e1 x).toNat < 512) :
    k0_chk1 (k0_pay5 i e0 e1) := by
  intro a x
  rw [Fin.eq_zero a]
  show (k0_pay5 i e0 e1 x).toNat < 8192
  rw [placeA i e0 e1 x (h0 _) (h1 _)]
  have := h0 (at16 x)
  split <;> omega

/-- Words below 64 scatter inside the second accumulator. -/
theorem chkB (i : grid0.Coords) (e0 e1 : Vec F S1x16 .i32) (h0 : ∀ x, (e0 x).toNat < 64) (h1 : ∀ x, (e1 x).toNat < 64) :
    k0_chk2 (k0_pay8 i e0 e1) := by
  intro a x
  rw [Fin.eq_zero a]
  show (k0_pay8 i e0 e1 x).toNat < 128
  rw [placeB i e0 e1 x (h0 _) (h1 _)]
  have := h0 (at16 x)
  split <;> omega

end Cert.Proof.Adj

end
-- ==== Proof.Tile.lean ====
/-
  One task of the adjacency call: the two edge lists fetched, the two accumulators zeroed, the edges scattered into them
  sixteen at a time by masked scatter-adds, and the accumulators written out to the task's rows of the two results.
-/
module

public import proofs.«01_k».proof.Proof.Lanes
public import Idealize.ShloMosaic.Lib.WritesUnit

@[expose] public section

noncomputable section

namespace Cert.Proof.Adj

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf)

variable {F : FTy → Type}

local notation "𝕄" => MT nD τ sig (HIx 1) (Elt F) ℕ UU ℕ

variable (m : (ℓ : Loc nD τ sig) → Buf (Elt F) ℓ)

local notation "eV" => (Memref.whole Cert.KernelIdeal.main_arg1_scv : Memref Cert.KernelIdeal.sig Kind.scVector Space.hbm Cert.KernelIdeal.S2x4096 EltTy.i32)
local notation "gV" => (Memref.whole Cert.KernelIdeal.main_arg2_scv : Memref Cert.KernelIdeal.sig Kind.scVector Space.hbm Cert.KernelIdeal.S2x512 EltTy.i32)
local notation "aV" => (Memref.whole Cert.KernelIdeal.main_v0_0_scv : Memref Cert.KernelIdeal.sig Kind.scVector Space.hbm Cert.KernelIdeal.S262144 EltTy.f32)
local notation "bV" => (Memref.whole Cert.KernelIdeal.main_v0_1_scv : Memref Cert.KernelIdeal.sig Kind.scVector Space.hbm Cert.KernelIdeal.S4096 EltTy.f32)
local notation "s0V" => (Memref.whole Cert.KernelIdeal.cc0_scratch0 : Memref Cert.KernelIdeal.sig Kind.scVector Space.vmem Cert.KernelIdeal.S2x4096 EltTy.i32)
local notation "s1V" => (Memref.whole Cert.KernelIdeal.cc0_scratch1 : Memref Cert.KernelIdeal.sig Kind.scVector Space.vmem Cert.KernelIdeal.S2x512 EltTy.i32)
local notation "s2V" => (Memref.whole Cert.KernelIdeal.cc0_scratch2 : Memref Cert.KernelIdeal.sig Kind.scVector Space.vmem Cert.KernelIdeal.S8192 EltTy.f32)
local notation "s3V" => (Memref.whole Cert.KernelIdeal.cc0_scratch3 : Memref Cert.KernelIdeal.sig Kind.scVector Space.vmem Cert.KernelIdeal.S128 EltTy.f32)

variable [FloatOps F]

section Tile

variable (d : Dev nD) (L : grid0.Coords)

/-- The tile's core. -/
abbrev cV (L : grid0.Coords) : Fin τ.nSC := (L 0).castLE hcore0
/-- The tile's subcore. -/
abbrev jV (L : grid0.Coords) : Fin τ.nSub := (L 1).castLE hsub0

/-- The task's rows of the two results, as the task addresses them. -/
abbrev aRowK (L : grid0.Coords) : Memref sig .scVector .hbm S8192 .f32 := (aV).slice (Rect.unit (s := S262144) (k0_off7 L) S8192.size (k0_off7_inb L)) (fun _ => rfl)
/-- The tile's slice of the second table. -/
abbrev bRowK (L : grid0.Coords) : Memref sig .scVector .hbm S128 .f32 := (bV).slice (Rect.unit (s := S4096) (k0_off8 L) S128.size (k0_off8_inb L)) (fun _ => rfl)

/-- The semaphore of the tile's scoped copy 0. -/
abbrev cell0 (c : Fin τ.nSC) (i : Fin τ.nSub) : GSem nD τ sig := (V d c i, .dma cc0_scoped0.sem)
/-- The semaphore of the tile's scoped copy 1. -/
abbrev cell1 (c : Fin τ.nSC) (i : Fin τ.nSub) : GSem nD τ sig := (V d c i, .dma cc0_scoped1.sem)
/-- The semaphore of the tile's scoped copy 2. -/
abbrev cell2 (c : Fin τ.nSC) (i : Fin τ.nSub) : GSem nD τ sig := (V d c i, .dma cc0_scoped2.sem)
/-- The semaphore of the tile's scoped copy 3. -/
abbrev cell3 (c : Fin τ.nSC) (i : Fin τ.nSub) : GSem nD τ sig := (V d c i, .dma cc0_scoped3.sem)

omit [FloatOps F] in
/-- The four transfer counters of the task are among the counters its subcore owns. -/
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0
          ∗ bigSep (((((ownCells (V d (cV L) (jV L))).erase (cell0 d (cV L) (jV L))).erase (cell1 d (cV L) (jV L))).erase (cell2 d (cV L) (jV L))).erase (cell3 d (cV L) (jV L)))
              fun g => semVal g 0) := by
  have own : ∀ s : DmaSem sig, (SemLoc.dma s : SemLoc sig).isScoped .scVector = true →
      ((V d (cV L) (jV L), SemLoc.dma s) : GSem nD τ sig) ∈ ownCells (V d (cV L) (jV L)) := fun s h => (mem_ownCells (g := (V d (cV L) (jV L), SemLoc.dma s))).mpr ⟨rfl, h⟩
  have ne : ∀ s s' : DmaSem sig, s ≠ s' → ((V d (cV L) (jV L), SemLoc.dma s) : GSem nD τ sig) ≠ (V d (cV L) (jV L), SemLoc.dma s') := by
    intro s s' h e; exact h (SemLoc.dma.inj (Prod.mk.inj e).2)
  unfold SparseCore.Cfg.ownSems0
  rw [SparseCore.bigSep_erase' (own cc0_scoped0.sem (by decide)),
    SparseCore.bigSep_erase' (Finset.mem_erase.mpr ⟨ne cc0_scoped1.sem cc0_scoped0.sem (by decide), own cc0_scoped1.sem (by decide)⟩),
    SparseCore.bigSep_erase' (Finset.mem_erase.mpr ⟨ne cc0_scoped2.sem cc0_scoped1.sem (by decide),
      Finset.mem_erase.mpr ⟨ne cc0_scoped2.sem cc0_scoped0.sem (by decide), own cc0_scoped2.sem (by decide)⟩⟩),
    SparseCore.bigSep_erase' (Finset.mem_erase.mpr ⟨ne cc0_scoped3.sem cc0_scoped2.sem (by decide),
      Finset.mem_erase.mpr ⟨ne cc0_scoped3.sem cc0_scoped1.sem (by decide),
        Finset.mem_erase.mpr ⟨ne cc0_scoped3.sem cc0_scoped0.sem (by decide), own cc0_scoped3.sem (by decide)⟩⟩⟩)]

/-- The subcore's buffer that a scratch name refers to. -/
abbrev ownRef (b : Ref sig .scVector) : DevRef τ sig := (Proc.scVector (cV L) (jV L)).devRef b

omit [FloatOps F] in
/-- The four scratch buffers are among the buffers the subcore owns. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase (ownRef L cc0_scratch0)).erase (ownRef L cc0_scratch1)).erase (ownRef L cc0_scratch2)).erase (ownRef L cc0_scratch3))
              fun b => iprop(∃ f, ((d, b) : Loc nD τ sig) ↦{fullShare} f)) := by
  have own : ∀ b : Ref sig .scVector, (ownRef L b).owner = .proc (Proc.scVector (cV L) (jV L)) → ownRef L b ∈ ownRefs (τ := τ) (.scVector (cV L) (jV L)) :=
    fun b h => SparseCore.Cfg.mem_ownRefs_of_owner (p := Proc.scVector (cV L) (jV L)) (b := ownRef L b) h
  have ne : ∀ b b' : Ref sig .scVector, b ≠ b' → ownRef L b ≠ ownRef L b' := fun b b' h e => h (Proc.devRef_injective _ e)
  unfold SparseCore.Cfg.ownBufs
  rw [SparseCore.bigSep_erase' (own cc0_scratch0 rfl),
    SparseCore.bigSep_erase' (Finset.mem_erase.mpr ⟨ne cc0_scratch1 cc0_scratch0 (by decide), own cc0_scratch1 rfl⟩),
    SparseCore.bigSep_erase' (Finset.mem_erase.mpr ⟨ne cc0_scratch2 cc0_scratch1 (by decide),
      Finset.mem_erase.mpr ⟨ne cc0_scratch2 cc0_scratch0 (by decide), own cc0_scratch2 rfl⟩⟩),
    SparseCore.bigSep_erase' (Finset.mem_erase.mpr ⟨ne cc0_scratch3 cc0_scratch2 (by decide),
      Finset.mem_erase.mpr ⟨ne cc0_scratch3 cc0_scratch1 (by decide),
        Finset.mem_erase.mpr ⟨ne cc0_scratch3 cc0_scratch0 (by decide), own cc0_scratch3 rfl⟩⟩⟩)]

/-- Zeroing the first accumulator, `k` trips in: its first `16 k` elements are zero. -/
def inv1 (k : Nat) (_ : Unit) : sProp 𝕄 :=
  iprop(∃ f : Buf (Elt F) ((s2V).view.loc (V d (cV L) (jV L))), ⌜∀ i : S8192.Idx, (i 0).val < 16 * k → f i = Scalar.ofBits .f32 0x00000000#32⌝
    ∗ (s2V).view.loc (V d (cV L) (jV L)) ↦{fullShare} f)
/-- Zeroing the second accumulator, `k` trips in. -/
def inv2 (k : Nat) (_ : Unit) : sProp 𝕄 :=
  iprop(∃ f : Buf (Elt F) ((s3V).view.loc (V d (cV L) (jV L))), ⌜∀ i : S128.Idx, (i 0).val < 16 * k → f i = Scalar.ofBits .f32 0x00000000#32⌝
    ∗ (s3V).view.loc (V d (cV L) (jV L)) ↦{fullShare} f)
/-- Scattering the first graph's edges, `k` groups in: the list as fetched, the accumulator at its value. -/
def inv3 (k : Nat) (_ : Unit) : sProp 𝕄 :=
  iprop(((s0V).view.loc (V d (cV L) (jV L)) ↦{fullShare} m (eLoc d)) ∗ (s2V).view.loc (V d (cV L) (jV L)) ↦{fullShare} accA (F := F) L (m (eLoc d)) k)
/-- Scattering the second graph's edges, `k` groups in. -/
def inv4 (k : Nat) (_ : Unit) : sProp 𝕄 :=
  iprop(((s1V).view.loc (V d (cV L) (jV L)) ↦{fullShare} m (gLoc d)) ∗ (s3V).view.loc (V d (cV L) (jV L)) ↦{fullShare} accB (F := F) L (m (gLoc d)) k)

/-- What a task is handed: a share of each edge list and its rows of the two results. -/
abbrev given (qe : PosShare TreeShare) (fa : Buf (Elt F) (aLoc d)) (fb : Buf (Elt F) (bLoc d)) : sProp 𝕄 :=
  iprop((eLoc d ↦{qe} m (eLoc d)) ∗ (gLoc d ↦{qe} m (gLoc d)) ∗ (aLoc d ↦[(aRowK L).view.set]{fullShare} fa) ∗ (bLoc d ↦[(bRowK L).view.set]{fullShare} fb))

/-! ## What the loads read, what the stores leave -/

omit [FloatOps F] in
/-- A load of sixteen words of the first list reads that group of its row. -/
theorem read_grpA (e : S2x4096.Idx → Elt F .i32) (k r : Nat) (hr : r < 2) (hk : 16 * k + 16 ≤ 4096) (off : Fin 2 → Nat) (ho : off = ![r, 16 * k])
    (h : ∀ a, off a + S1x16.size a ≤ S2x4096.size a) :
    View.readAt (Elt F) (s0V).view (Rect.unit (s := S2x4096) off S1x16.size h).toLoadRect e = grp e ⟨r, hr⟩ k hk := by
  subst ho
  funext x
  refine congrArg e (funext fun a => Fin.ext ?_)
  have h0 : (x 0).val < 1 := (x 0).isLt
  match a with
  | 0 => show r + 1 * (x 0).val = r; omega
  | 1 => show 16 * k + 1 * (x 1).val = 16 * k + (x 1).val; omega

omit [FloatOps F] in
/-- A load of sixteen words of the second list reads that group of its row. -/
theorem read_grpB (e : S2x512.Idx → Elt F .i32) (k r : Nat) (hr : r < 2) (hk : 16 * k + 16 ≤ 512) (off : Fin 2 → Nat) (ho : off = ![r, 16 * k])
    (h : ∀ a, off a + S1x16.size a ≤ S2x512.size a) :
    View.readAt (Elt F) (s1V).view (Rect.unit (s := S2x512) off S1x16.size h).toLoadRect e = grp e ⟨r, hr⟩ k hk := by
  subst ho
  funext x
  refine congrArg e (funext fun a => Fin.ext ?_)
  have h0 : (x 0).val < 1 := (x 0).isLt
  match a with
  | 0 => show r + 1 * (x 0).val = r; omega
  | 1 => show 16 * k + 1 * (x 1).val = 16 * k + (x 1).val; omega

/-- A group's scatter-add, its check met, is the step of the recursion. -/
theorem step_eqA (e : S2x4096.Idx → Elt F .i32) (k : Nat) (hk : 16 * k + 16 ≤ 4096) (g : Vec F S8192 .f32) (e0 e1 : Vec F S1x16 .i32)
    (h0 : e0 = grp e 0 k hk) (h1 : e1 = grp e 1 k hk) (h : k0_chk1 (k0_pay5 L e0 e1)) :
    storeIdx g ![k0_pay5 L e0 e1] (k0_pay2 (F := F)) (k0_pay4 L e1) true (k0_idx1_inb _ h) = stepA L e k g := by
  subst h0; subst h1
  unfold stepA
  rw [dif_pos hk, dif_pos h]

/-- The same on the second graph. -/
theorem step_eqB (e : S2x512.Idx → Elt F .i32) (k : Nat) (hk : 16 * k + 16 ≤ 512) (g : Vec F S128 .f32) (e0 e1 : Vec F S1x16 .i32)
    (h0 : e0 = grp e 0 k hk) (h1 : e1 = grp e 1 k hk) (h : k0_chk2 (k0_pay8 L e0 e1)) :
    storeIdx g ![k0_pay8 L e0 e1] (k0_pay2 (F := F)) (k0_pay7 L e1) true (k0_idx2_inb _ h) = stepB L e k g := by
  subst h0; subst h1
  unfold stepB
  rw [dif_pos hk, dif_pos h]

-- the regions' arguments, as the body passes them
local notation "body1" => k0_t1_body L eV (Memref.isWhole_whole _) gV (Memref.isWhole_whole _) aV (Memref.isWhole_whole _) bV (Memref.isWhole_whole _) s0V (Memref.isWhole_whole _) s1V (Memref.isWhole_whole _) s2V (Memref.isWhole_whole _) s3V (Memref.isWhole_whole _) cc0_scoped0 cc0_scoped1 cc0_scoped2 cc0_scoped3
local notation "body2" => k0_t2_body L eV (Memref.isWhole_whole _) gV (Memref.isWhole_whole _) aV (Memref.isWhole_whole _) bV (Memref.isWhole_whole _) s0V (Memref.isWhole_whole _) s1V (Memref.isWhole_whole _) s2V (Memref.isWhole_whole _) s3V (Memref.isWhole_whole _) cc0_scoped0 cc0_scoped1 cc0_scoped2 cc0_scoped3
local notation "body3" => k0_t3_body L eV (Memref.isWhole_whole _) gV (Memref.isWhole_whole _) aV (Memref.isWhole_whole _) bV (Memref.isWhole_whole _) s0V (Memref.isWhole_whole _) s1V (Memref.isWhole_whole _) s2V (Memref.isWhole_whole _) s3V (Memref.isWhole_whole _) cc0_scoped0 cc0_scoped1 cc0_scoped2 cc0_scoped3
local notation "body4" => k0_t4_body L eV (Memref.isWhole_whole _) gV (Memref.isWhole_whole _) aV (Memref.isWhole_whole _) bV (Memref.isWhole_whole _) s0V (Memref.isWhole_whole _) s1V (Memref.isWhole_whole _) s2V (Memref.isWhole_whole _) s3V (Memref.isWhole_whole _) cc0_scoped0 cc0_scoped1 cc0_scoped2 cc0_scoped3

/-- One trip of the first zeroing loop. -/
theorem region1 (k : Fin k0_t1_loop.trips) :
    inv1 d L k.val () ⊢ wp frame (wpE (defs₀ (F := F)) 𝒱₀ (V d (cV L) (jV L)) none) Set.univ (body1 k ()) fun r => inv1 d L (k.val + 1) r := by
  unfold inv1 k0_t1_body
  iintro ⟨%f, %hf, H2⟩
  sl_exec
  sl_step
  iexists _
  isplitr [H2]
  rotate_left
  · iexact H2
  ipureintro
  intro i hi
  refine (View.read_writes_cons_unit (s2V).view f (off' := ![16 * k.val]) _ _ [] i (k0_off1_eq k)).trans ?_
  split
  · rfl
  · rename_i h
    refine hf i ?_
    by_contra hc
    exact h fun a => by rw [Fin.eq_zero a]; exact ⟨by show 16 * k.val ≤ (i 0).val; omega, by show (i 0).val < 16 * k.val + 16; omega⟩

/-- One trip of the second zeroing loop. -/
theorem region2 (k : Fin k0_t2_loop.trips) :
    inv2 d L k.val () ⊢ wp frame (wpE (defs₀ (F := F)) 𝒱₀ (V d (cV L) (jV L)) none) Set.univ (body2 k ()) fun r => inv2 d L (k.val + 1) r := by
  unfold inv2 k0_t2_body
  iintro ⟨%f, %hf, H3⟩
  sl_exec
  sl_step
  iexists _
  isplitr [H3]
  rotate_left
  · iexact H3
  ipureintro
  intro i hi
  refine (View.read_writes_cons_unit (s3V).view f (off' := ![16 * k.val]) _ _ [] i (k0_off2_eq k)).trans ?_
  split
  · rfl
  · rename_i h
    refine hf i ?_
    by_contra hc
    exact h fun a => by rw [Fin.eq_zero a]; exact ⟨by show 16 * k.val ≤ (i 0).val; omega, by show (i 0).val < 16 * k.val + 16; omega⟩

omit [FloatOps F] in
/-- The first accumulator, held under its own name. -/
theorem pts_s2 (f : Buf (Elt F) ((s2V).view.loc (V d (cV L) (jV L)))) :
    (((s2V).access (.whole S8192)).loc (V d (cV L) (jV L)) ↦[((s2V).access (.whole S8192)).set]{fullShare} f : sProp 𝕄)
      = (s2V).view.loc (V d (cV L) (jV L)) ↦{fullShare} f := by
  rw [show ((s2V).access (.whole S8192)).set = Finset.univ from Memref.set_access_whole (cc0_scratch2 : Ref sig .scVector)]
omit [FloatOps F] in
/-- The second accumulator, held under its own name. -/
theorem pts_s3 (f : Buf (Elt F) ((s3V).view.loc (V d (cV L) (jV L)))) :
    (((s3V).access (.whole S128)).loc (V d (cV L) (jV L)) ↦[((s3V).access (.whole S128)).set]{fullShare} f : sProp 𝕄)
      = (s3V).view.loc (V d (cV L) (jV L)) ↦{fullShare} f := by
  rw [show ((s3V).access (.whole S128)).set = Finset.univ from Memref.set_access_whole (cc0_scratch3 : Ref sig .scVector)]

/-- One group of the first graph's edges. -/
theorem region3 (hpre : PreOK m) (k : Fin k0_t3_loop.trips) :
    inv3 m d L k.val () ⊢ wp frame (wpE (defs₀ (F := F)) 𝒱₀ (V d (cV L) (jV L)) none) Set.univ (body3 k ()) fun r => inv3 m d L (k.val + 1) r := by
  have hk : 16 * k.val + 16 ≤ 4096 := by have : k.val < 256 := k.isLt; omega
  have r0 := read_grpA (F := F) (m (eLoc d)) k.val 0 (by omega) hk _ (k0_off3_eq k) (k0_off3_inb k)
  have r1 := read_grpA (F := F) (m (eLoc d)) k.val 1 (by omega) hk _ (k0_off4_eq k) (k0_off4_inb k)
  have hchk : k0_chk1 (k0_pay5 L (grp (m (eLoc d)) 0 k.val hk) (grp (m (eLoc d)) 1 k.val hk)) :=
    chkA L _ _ (fun _ => (hpre d).1 _) (fun _ => (hpre d).1 _)
  unfold inv3 k0_t3_body
  iintro ⟨H0, H2⟩
  sl_exec
  unfold region3.sl.v32
  ihave H2 := (Entails.of_eq (pts_s2 (F := F) d L _).symm) $$ H2
  iapply (SparseCore.wp_vectorStoreIdx 𝒱₀ (V d (cV L) (jV L)) none Set.univ (base := s2V)) $$ H2
  iintro H2
  ihave H2 := (Entails.of_eq (pts_s2 (F := F) d L _)) $$ H2
  sl_step
  isplitl [H0]
  · iexact H0
  rw [Memref.write_access_whole_univ (Elt F) cc0_scratch2, Memref.read_access_whole (Elt F) cc0_scratch2]
  rw [show accA (F := F) L (m (eLoc d)) (k.val + 1) = stepA L (m (eLoc d)) k.val (accA L (m (eLoc d)) k.val) from rfl,
    ← step_eqA L (m (eLoc d)) k.val hk (accA L (m (eLoc d)) k.val) _ _ rfl rfl hchk]
  iexact H2

/-- One group of the second graph's edges. -/
theorem region4 (hpre : PreOK m) (k : Fin k0_t4_loop.trips) :
    inv4 m d L k.val () ⊢ wp frame (wpE (defs₀ (F := F)) 𝒱₀ (V d (cV L) (jV L)) none) Set.univ (body4 k ()) fun r => inv4 m d L (k.val + 1) r := by
  have hk : 16 * k.val + 16 ≤ 512 := by have : k.val < 32 := k.isLt; omega
  have r0 := read_grpB (F := F) (m (gLoc d)) k.val 0 (by omega) hk _ (k0_off5_eq k) (k0_off5_inb k)
  have r1 := read_grpB (F := F) (m (gLoc d)) k.val 1 (by omega) hk _ (k0_off6_eq k) (k0_off6_inb k)
  have hchk : k0_chk2 (k0_pay8 L (grp (m (gLoc d)) 0 k.val hk) (grp (m (gLoc d)) 1 k.val hk)) :=
    chkB L _ _ (fun _ => (hpre d).2 _) (fun _ => (hpre d).2 _)
  unfold inv4 k0_t4_body
  iintro ⟨H1, H3⟩
  sl_exec
  unfold region4.sl.v32
  ihave H3 := (Entails.of_eq (pts_s3 (F := F) d L _).symm) $$ H3
  iapply (SparseCore.wp_vectorStoreIdx 𝒱₀ (V d (cV L) (jV L)) none Set.univ (base := s3V)) $$ H3
  iintro H3
  ihave H3 := (Entails.of_eq (pts_s3 (F := F) d L _)) $$ H3
  sl_step
  isplitl [H1]
  · iexact H1
  rw [Memref.write_access_whole_univ (Elt F) cc0_scratch3, Memref.read_access_whole (Elt F) cc0_scratch3]
  rw [show accB (F := F) L (m (gLoc d)) (k.val + 1) = stepB L (m (gLoc d)) k.val (accB L (m (gLoc d)) k.val) from rfl,
    ← step_eqB L (m (gLoc d)) k.val hk (accB L (m (gLoc d)) k.val) _ _ rfl rfl hchk]
  iexact H3

omit [FloatOps F] in
/-- An accumulator zeroed by every trip holds zeros. -/
theorem zero_eq {n : Nat} (f : (⟨1, ![n]⟩ : Shape).Idx → Elt F .f32) (z : Elt F .f32) (h : ∀ i : (⟨1, ![n]⟩ : Shape).Idx, (i 0).val < n → f i = z) : f = fun _ => z :=
  funext fun i => h i (i 0).isLt

/-- The task's rows of the first result, its accumulator written over them. -/
theorem rowA_eq (f : Buf (Elt F) (aLoc d)) (e : S2x4096.Idx → Elt F .i32) (w : Vec F S8192 .f32) (hwe : w = accA L e 256) :
    ∀ i ∈ (aRowK L).view.set, (aRowK L).view.writes (Elt F) f [⟨Rect.whole S8192, w⟩] i = outA e i := by
  intro i hi
  obtain ⟨x, -, rfl⟩ := Finset.mem_map.mp hi
  have hw := View.read_writes_cons_emb (aRowK L).view f (Rect.whole S8192) w [] x
  rw [Rect.emb_whole_apply] at hw
  rw [View.read_apply, cast_eq] at hw
  refine hw.trans ?_
  clear hw
  have hx : (x 0).val < 8192 := (x 0).isLt
  have h0 : (L 0).val < 2 := (L 0).isLt
  have h1 : (L 1).val < 16 := (L 1).isLt
  have hv : ((aRowK L).view.emb x 0).val = 16384 * (L 1).val + 8192 * (L 0).val + (x 0).val := by
    show (k0_off7 L) 0 + 1 * (x 0).val = _
    rw [k0_off7_eq]; show 16384 * (L 1).val + 8192 * (L 0).val + 1 * (x 0).val = _; omega
  unfold outA
  have ec : coordsOf ⟨((aRowK L).view.emb x 0).val / 8192, by have : ((aRowK L).view.emb x 0).val < 262144 := ((aRowK L).view.emb x 0).isLt; omega⟩ = L := by
    funext a
    match a with
    | 0 => exact Fin.ext (show ((aRowK L).view.emb x 0).val / 8192 % 2 = (L 0).val by rw [hv]; omega)
    | 1 => exact Fin.ext (show ((aRowK L).view.emb x 0).val / 8192 / 2 = (L 1).val by rw [hv]; omega)
  rw [ec, ← hwe]
  refine congrArg w (funext fun a => ?_)
  obtain rfl := Fin.eq_zero a
  exact Fin.ext (show (x 0).val = ((aRowK L).view.emb x 0).val % 8192 by rw [hv]; omega)

/-- The task's rows of the second result, its accumulator written over them. -/
theorem rowB_eq (f : Buf (Elt F) (bLoc d)) (e : S2x512.Idx → Elt F .i32) (w : Vec F S128 .f32) (hwe : w = accB L e 32) :
    ∀ i ∈ (bRowK L).view.set, (bRowK L).view.writes (Elt F) f [⟨Rect.whole S128, w⟩] i = outB e i := by
  intro i hi
  obtain ⟨x, -, rfl⟩ := Finset.mem_map.mp hi
  have hw := View.read_writes_cons_emb (bRowK L).view f (Rect.whole S128) w [] x
  rw [Rect.emb_whole_apply] at hw
  rw [View.read_apply, cast_eq] at hw
  refine hw.trans ?_
  clear hw
  have hx : (x 0).val < 128 := (x 0).isLt
  have h0 : (L 0).val < 2 := (L 0).isLt
  have h1 : (L 1).val < 16 := (L 1).isLt
  have hv : ((bRowK L).view.emb x 0).val = 256 * (L 1).val + 128 * (L 0).val + (x 0).val := by
    show (k0_off8 L) 0 + 1 * (x 0).val = _
    rw [k0_off8_eq]; show 256 * (L 1).val + 128 * (L 0).val + 1 * (x 0).val = _; omega
  unfold outB
  have ec : coordsOf ⟨((bRowK L).view.emb x 0).val / 128, by have : ((bRowK L).view.emb x 0).val < 4096 := ((bRowK L).view.emb x 0).isLt; omega⟩ = L := by
    funext a
    match a with
    | 0 => exact Fin.ext (show ((bRowK L).view.emb x 0).val / 128 % 2 = (L 0).val by rw [hv]; omega)
    | 1 => exact Fin.ext (show ((bRowK L).view.emb x 0).val / 128 / 2 = (L 1).val by rw [hv]; omega)
  rw [ec, ← hwe]
  refine congrArg w (funext fun a => ?_)
  obtain rfl := Fin.eq_zero a
  exact Fin.ext (show (x 0).val = ((bRowK L).view.emb x 0).val % 128 by rw [hv]; omega)

set_option maxHeartbeats 4000000 in
/-- A task runs to its end: handed its shares of the lists and its rows of the results, it hands them back with each row
holding the accumulator after the last group. -/
theorem tile_body (hF : (K (F := F)).Facts) (hpre : PreOK m) (qe : PosShare TreeShare) (O : CellTallies nD τ sig (HIx 1)) (W : Waits sig (HIx 1)) (hO : ∀ g, O g none = 0) :
    iprop(levAts (K (F := F)).L (K (F := F)).lev ∗ emp
        ∗ given m d L qe (m (aLoc d)) (m (bLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__adj_body L eV (Memref.isWhole_whole _) gV (Memref.isWhole_whole _) aV (Memref.isWhole_whole _) bV (Memref.isWhole_whole _)
            s0V (Memref.isWhole_whole _) s1V (Memref.isWhole_whole _) s2V (Memref.isWhole_whole _) s3V (Memref.isWhole_whole _)
            cc0_scoped0 cc0_scoped1 cc0_scoped2 cc0_scoped3)
          fun _ => iprop(given m d L qe (outA (m (eLoc d))) (outB (m (gLoc d)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__adj_body_eq_skeleton]; unfold cc0__adj_body_skel
  rw [k0_part1_eq_skeleton]; unfold k0_part1_skel; simp only [bind_assoc]
  rw [(K (F := F)).scopedBufs_V hF d (cV L) (jV L), SparseCore.Cfg.scopedSems0_V (Val := Elt F) d (cV L) (jV L), ownSems0_V, ownBufs_V]
  iintro ⟨#Hlv, -, ⟨He, Hg, Ha, Hb⟩, ⟨⟨%f0, H0⟩, ⟨%f1, H1⟩, ⟨%f2, H2⟩, ⟨%f3, H3⟩, Hbufs⟩, ⟨Hc0, Hc1, Hc2, Hc3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave He := (show (eLoc d ↦{qe} m (eLoc d) : sProp 𝕄) ⊢ (eV).view.loc (V d (cV L) (jV L)) ↦{qe} m (eLoc d) from .rfl) $$ He
  ihave Hg := (show (gLoc d ↦{qe} m (gLoc d) : sProp 𝕄) ⊢ (gV).view.loc (V d (cV L) (jV L)) ↦{qe} m (gLoc d) from .rfl) $$ Hg
  ihave Ha := (show (aLoc d ↦[(aRowK L).view.set]{fullShare} m (aLoc d) : sProp 𝕄) ⊢ (aRowK L).view.loc (V d (cV L) (jV L)) ↦[(aRowK L).view.set]{fullShare} m (aLoc d) from .rfl) $$ Ha
  ihave Hb := (show (bLoc d ↦[(bRowK L).view.set]{fullShare} m (bLoc d) : sProp 𝕄) ⊢ (bRowK L).view.loc (V d (cV L) (jV L)) ↦[(bRowK L).view.set]{fullShare} m (bLoc d) from .rfl) $$ Hb
  ihave H0 := (show ((V d (cV L) (jV L)).loc cc0_scratch0 ↦{fullShare} f0 : sProp 𝕄) ⊢ (s0V).view.loc (V d (cV L) (jV L)) ↦{fullShare} f0 from .rfl) $$ H0
  ihave H1 := (show ((V d (cV L) (jV L)).loc cc0_scratch1 ↦{fullShare} f1 : sProp 𝕄) ⊢ (s1V).view.loc (V d (cV L) (jV L)) ↦{fullShare} f1 from .rfl) $$ H1
  ihave H2 := (show ((V d (cV L) (jV L)).loc cc0_scratch2 ↦{fullShare} f2 : sProp 𝕄) ⊢ (s2V).view.loc (V d (cV L) (jV L)) ↦{fullShare} f2 from .rfl) $$ H2
  ihave H3 := (show ((V d (cV L) (jV L)).loc cc0_scratch3 ↦{fullShare} f3 : sProp 𝕄) ⊢ (s3V).view.loc (V d (cV L) (jV L)) ↦{fullShare} f3 from .rfl) $$ H3
  sl_exec
  sl_for (inv1 d L) $$ [H2]
  case region => exact fun k _ => region1 d L k
  · unfold inv1
    iexists _
    isplitr [H2]
    rotate_left
    · iexact H2
    ipureintro
    intro i hi
    exact absurd hi (by omega)
  iintro %_ HI
  sl_exec
  sl_for (inv2 d L) $$ [H3]
  case region => exact fun k _ => region2 d L k
  · unfold inv2
    iexists _
    isplitr [H3]
    rotate_left
    · iexact H3
    ipureintro
    intro i hi
    exact absurd hi (by omega)
  iintro %_ HI2
  unfold inv1 inv2
  icases HI with ⟨%z2, %hz2, H2⟩
  icases HI2 with ⟨%z3, %hz3, H3⟩
  obtain rfl := zero_eq (F := F) (n := 8192) z2 _ hz2
  obtain rfl := zero_eq (F := F) (n := 128) z3 _ hz3
  ihave H0 := (Entails.of_eq (show ((s0V).view.loc (V d (cV L) (jV L)) ↦{fullShare} View.write (Elt F) (s0V).view f0 (tile_body.sl.dma0 m d) Finset.univ : sProp 𝕄)
      = (s0V).view.loc (V d (cV L) (jV L)) ↦{fullShare} m (eLoc d) from congrArg _ (View.write_whole_univ _ _ _))) $$ H0
  ihave H1 := (Entails.of_eq (show ((s1V).view.loc (V d (cV L) (jV L)) ↦{fullShare} View.write (Elt F) (s1V).view f1 (tile_body.sl.dma0_1 m d) Finset.univ : sProp 𝕄)
      = (s1V).view.loc (V d (cV L) (jV L)) ↦{fullShare} m (gLoc d) from congrArg _ (View.write_whole_univ _ _ _))) $$ H1
  sl_exec
  sl_for (inv3 m d L) $$ [H0 H2]
  case region => exact fun k _ => region3 m d L hpre k
  · unfold inv3
    isplitl [H0]
    · iexact H0
    iexact H2
  iintro %_ HI
  sl_exec
  sl_for (inv4 m d L) $$ [H1 H3]
  case region => exact fun k _ => region4 m d L hpre k
  · unfold inv4
    isplitl [H1]
    · iexact H1
    iexact H3
  iintro %_ HI2
  unfold inv3 inv4
  icases HI with ⟨H0, H2⟩
  icases HI2 with ⟨H1, H3⟩
  sl_exec
  sl_step
  isplitl [He Hg Ha Hb]
  · isplitl [He]; · iexact He
    isplitl [Hg]; · iexact Hg
    isplitl [Ha]
    · ihave Ha := (Entails.of_eq (pointsTo_congr (rowA_eq d L (m (aLoc d)) (m (eLoc d)) _ rfl))) $$ Ha
      iexact Ha
    · ihave Hb := (Entails.of_eq (pointsTo_congr (rowB_eq d L (m (bLoc d)) (m (gLoc d)) _ rfl))) $$ Hb
      iexact Hb
  isplitl [H0 H1 H2 H3 Hbufs]
  · isplitl [H0]; · iexists _; iexact H0
    isplitl [H1]; · iexists _; iexact H1
    isplitl [H2]; · iexists _; iexact H2
    isplitl [H3]; · iexists _; iexact H3
    iexact Hbufs
  isplitl [Hc0 Hc1 Hc2 Hc3 Hsems]
  · isplitl [Hc0]; · iexact Hc0
    isplitl [Hc1]; · iexact Hc1
    isplitl [Hc2]; · iexact Hc2
    isplitl [Hc3]; · iexact Hc3
    iexact Hsems
  iexists _
  isplitr [HO]
  rotate_left
  · iexact HO
  ipureintro
  intro p hp
  simp only [Finset.mem_insert] at hp
  rcases hp with rfl | rfl | rfl | rfl | h
  · exact Or.inr rfl
  · exact Or.inr rfl
  · exact Or.inr rfl
  · exact Or.inr rfl
  · exact Or.inl h

end Tile
end Cert.Proof.Adj

end
-- ==== Proof.Split.lean ====
/-
  The thirty-two tasks together: the arrays split among them and joined again, their obligations, and what the call hands each core.
-/
module

public import proofs.«01_k».proof.Proof.Tile

@[expose] public section

@[expose] public section

noncomputable section

namespace Cert.Proof.Adj

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf)

variable {F : FTy → Type}

local notation "𝕄" => MT nD τ sig (HIx 1) (Elt F) ℕ UU ℕ

variable (m : (ℓ : Loc nD τ sig) → Buf (Elt F) ℓ)

local notation "eV" => (Memref.whole Cert.KernelIdeal.main_arg1_scv : Memref Cert.KernelIdeal.sig Kind.scVector Space.hbm Cert.KernelIdeal.S2x4096 EltTy.i32)
local notation "gV" => (Memref.whole Cert.KernelIdeal.main_arg2_scv : Memref Cert.KernelIdeal.sig Kind.scVector Space.hbm Cert.KernelIdeal.S2x512 EltTy.i32)
local notation "aV" => (Memref.whole Cert.KernelIdeal.main_v0_0_scv : Memref Cert.KernelIdeal.sig Kind.scVector Space.hbm Cert.KernelIdeal.S262144 EltTy.f32)
local notation "bV" => (Memref.whole Cert.KernelIdeal.main_v0_1_scv : Memref Cert.KernelIdeal.sig Kind.scVector Space.hbm Cert.KernelIdeal.S4096 EltTy.f32)
local notation "s0V" => (Memref.whole Cert.KernelIdeal.cc0_scratch0 : Memref Cert.KernelIdeal.sig Kind.scVector Space.vmem Cert.KernelIdeal.S2x4096 EltTy.i32)
local notation "s1V" => (Memref.whole Cert.KernelIdeal.cc0_scratch1 : Memref Cert.KernelIdeal.sig Kind.scVector Space.vmem Cert.KernelIdeal.S2x512 EltTy.i32)
local notation "s2V" => (Memref.whole Cert.KernelIdeal.cc0_scratch2 : Memref Cert.KernelIdeal.sig Kind.scVector Space.vmem Cert.KernelIdeal.S8192 EltTy.f32)
local notation "s3V" => (Memref.whole Cert.KernelIdeal.cc0_scratch3 : Memref Cert.KernelIdeal.sig Kind.scVector Space.vmem Cert.KernelIdeal.S128 EltTy.f32)

variable [FloatOps F]

/-! ## The tasks and the whole arrays -/

/-- The coordinates of the task on core `c` and subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- Cores and subcores against the numbers of their tasks. -/
def taskEquiv : Fin 2 × Fin 16 ≃ Fin 32 := (Equiv.prodComm (Fin 2) (Fin 16)).trans (finProdFinEquiv (m := 16) (n := 2))

/-- A tile's number from its core and subcore. -/
theorem taskEquiv_val (p : Fin 2 × Fin 16) : (taskEquiv p).val = p.2.val * 2 + p.1.val := by
  show p.1.val + 2 * p.2.val = _; omega

/-- The first table splits evenly over the tiles. -/
theorem adiv : 32 ∣ S262144.size 0 := by decide
/-- The second table splits evenly over the tiles. -/
theorem bdiv : 32 ∣ S4096.size 0 := by decide

omit [FloatOps F] in
/-- Two rectangles of one corner and one extent have the same elements. -/
theorem unit_set_congr {s : Shape} {o o' n n' : Fin s.rank → Nat} {h : ∀ a, o a + n a ≤ s.size a} {h' : ∀ a, o' a + n' a ≤ s.size a}
    (ho : o = o') (hn : n = n') : (Rect.unit (s := s) o n h).set = (Rect.unit (s := s) o' n' h').set := by
  subst ho hn; rfl

omit [FloatOps F] in
/-- The rows of the first result a task writes are the part with the task's number. -/
theorem aRow_part (p : Fin 2 × Fin 16) :
    (aRowK (coordsV p.1 p.2)).view.set = (Rect.part (s := S262144) (a₀ := 0) adiv (taskEquiv p)).set := by
  refine Eq.trans (b := (Rect.unit (s := S262144) (k0_off7 (coordsV p.1 p.2)) S8192.size (k0_off7_inb _)).set) ?_ ?_
  · exact (View.set_slice _ _).trans Finset.map_refl
  unfold Rect.part Rect.block
  refine unit_set_congr (funext fun a => ?_) (funext fun a => ?_)
  · rw [k0_off7_eq]
    match a with
    | 0 => simp [Shape.partIx, Shape.partSize, taskEquiv_val, coordsV]; omega
  · match a with
    | 0 => simp [Shape.partSize]

omit [FloatOps F] in
/-- The rows of the second result a task writes are the part with the task's number. -/
theorem bRow_part (p : Fin 2 × Fin 16) :
    (bRowK (coordsV p.1 p.2)).view.set = (Rect.part (s := S4096) (a₀ := 0) bdiv (taskEquiv p)).set := by
  refine Eq.trans (b := (Rect.unit (s := S4096) (k0_off8 (coordsV p.1 p.2)) S128.size (k0_off8_inb _)).set) ?_ ?_
  · exact (View.set_slice _ _).trans Finset.map_refl
  unfold Rect.part Rect.block
  refine unit_set_congr (funext fun a => ?_) (funext fun a => ?_)
  · rw [k0_off8_eq]
    match a with
    | 0 => simp [Shape.partIx, Shape.partSize, taskEquiv_val, coordsV]; omega
  · match a with
    | 0 => simp [Shape.partSize]

omit [FloatOps F] in
/-- The first result is its thirty-two parts. -/
theorem aPts_parts (d : Dev nD) (f : Buf (Elt F) (aLoc d)) :
    (aLoc d ↦{fullShare} f : sProp 𝕄)
      = bigSep Finset.univ fun w : Fin 32 => aLoc d ↦[(Rect.part (s := S262144) (a₀ := 0) adiv w).set]{fullShare} f := by
  rw [← pointsTo_biUnion Finset.univ (ℓ := aLoc d) (fun w : Fin 32 => (Rect.part (s := S262144) (a₀ := 0) adiv w).set)
    (fun _ _ _ _ h => Rect.part_disjoint adiv h), show Finset.univ.biUnion _ = (Finset.univ : Finset S262144.Idx) from Rect.biUnion_part adiv]
  try rfl

omit [FloatOps F] in
/-- The second result is its thirty-two parts. -/
theorem bPts_parts (d : Dev nD) (f : Buf (Elt F) (bLoc d)) :
    (bLoc d ↦{fullShare} f : sProp 𝕄)
      = bigSep Finset.univ fun w : Fin 32 => bLoc d ↦[(Rect.part (s := S4096) (a₀ := 0) bdiv w).set]{fullShare} f := by
  rw [← pointsTo_biUnion Finset.univ (ℓ := bLoc d) (fun w : Fin 32 => (Rect.part (s := S4096) (a₀ := 0) bdiv w).set)
    (fun _ _ _ _ h => Rect.part_disjoint bdiv h), show Finset.univ.biUnion _ = (Finset.univ : Finset S4096.Idx) from Rect.biUnion_part bdiv]
  try rfl

omit [FloatOps F] in
/-- The first edge list, read by every task at once: thirty-two shares of it. -/
theorem ePts_shares (d : Dev nD) (f : Buf (Elt F) (eLoc d)) :
    (eLoc d ↦{fullShare} f : sProp 𝕄) = bigSep Finset.univ fun w : Fin 32 => eLoc d ↦{leaf 5 fullShare w} f :=
  ShareLeaves.pointsTo_leaves Finset.univ f 5 fullShare

omit [FloatOps F] in
/-- The second edge list the same. -/
theorem gPts_shares (d : Dev nD) (f : Buf (Elt F) (gLoc d)) :
    (gLoc d ↦{fullShare} f : sProp 𝕄) = bigSep Finset.univ fun w : Fin 32 => gLoc d ↦{leaf 5 fullShare w} f :=
  ShareLeaves.pointsTo_leaves Finset.univ f 5 fullShare

/-- The two edge lists and the two results whole, the results at the contents named. -/
abbrev arrays (d : Dev nD) (fa : Buf (Elt F) (aLoc d)) (fb : Buf (Elt F) (bLoc d)) : sProp 𝕄 :=
  iprop((eLoc d ↦{fullShare} m (eLoc d)) ∗ (gLoc d ↦{fullShare} m (gLoc d)) ∗ (aLoc d ↦{fullShare} fa) ∗ bLoc d ↦{fullShare} fb)

/-- What one task of a core holds of them. -/
abbrev taskPts (d : Dev nD) (c : Fin 2) (s : Fin 16) (fa : Buf (Elt F) (aLoc d)) (fb : Buf (Elt F) (bLoc d)) : sProp 𝕄 :=
  given m d (coordsV c s) (leaf 5 fullShare (taskEquiv (c, s))) fa fb

omit [FloatOps F] in
/-- The whole arrays are what the tasks of the two cores hold. -/
theorem arrays_tasks (d : Dev nD) (fa : Buf (Elt F) (aLoc d)) (fb : Buf (Elt F) (bLoc d)) :
    (arrays m d fa fb : sProp 𝕄)
      = bigSep Finset.univ fun c : Fin 2 => bigSep Finset.univ fun s : Fin 16 => taskPts m d c s fa fb := by
  rw [← bigSep_univ_prod (fun p : Fin 2 × Fin 16 => taskPts m d p.1 p.2 fa fb)]
  unfold arrays taskPts given
  rw [bigSep_sep', bigSep_sep', bigSep_sep', ePts_shares, gPts_shares, aPts_parts, bPts_parts,
    bigSep_univ_equiv taskEquiv (fun w : Fin 32 => (eLoc d ↦[Finset.univ]{leaf 5 fullShare w} m (eLoc d) : sProp 𝕄)),
    bigSep_univ_equiv taskEquiv (fun w : Fin 32 => (gLoc d ↦[Finset.univ]{leaf 5 fullShare w} m (gLoc d) : sProp 𝕄)),
    bigSep_univ_equiv taskEquiv (fun w : Fin 32 => (aLoc d ↦[(Rect.part (s := S262144) (a₀ := 0) adiv w).set]{fullShare} fa : sProp 𝕄)),
    bigSep_univ_equiv taskEquiv (fun w : Fin 32 => (bLoc d ↦[(Rect.part (s := S4096) (a₀ := 0) bdiv w).set]{fullShare} fb : sProp 𝕄))]
  refine congrArg₂ _ rfl (congrArg₂ _ rfl (congrArg₂ _ ?_ ?_))
  · exact bigSep_congr fun p _ => by rw [aRow_part]
  · exact bigSep_congr fun p _ => by rw [bRow_part]

/-! ## What the call hands each core and each task -/

/-- A core is handed its tasks' holdings at the launch contents, and hands them back at the counts. -/
def P : (K (F := F)).Pay (nD := nD) (Val := Elt F) (Name := ℕ) (U := UU) where
  st := fun q d c => match q with
    | 0 => bigSep Finset.univ fun s : Fin 16 => taskPts m d c s (m (aLoc d)) (m (bLoc d))
  dn := fun q d c => match q with
    | 0 => bigSep Finset.univ fun s : Fin 16 => taskPts m d c s (outA (m (eLoc d))) (outB (m (gLoc d)))
  go := fun q d c i => match q with
    | 0 => taskPts m d c i (m (aLoc d)) (m (bLoc d))
  td := fun q d c i => match q with
    | 0 => taskPts m d c i (outA (m (eLoc d))) (outB (m (gLoc d)))
  x := fun _ _ => iprop(emp)

/-- What the launch passes to and from a tile may be stored. -/
instance P_storable : (P (F := F) m).IsStorable where
  st q d c := match q with
    | 0 => (inferInstance : BI.Storable (upEmb : UEmb _ 𝕄) (bigSep Finset.univ fun s : Fin 16 => taskPts m d c s (m (aLoc d)) (m (bLoc d))))
  dn q d c := match q with
    | 0 => (inferInstance : BI.Storable (upEmb : UEmb _ 𝕄) (bigSep Finset.univ fun s : Fin 16 => taskPts m d c s (outA (m (eLoc d))) (outB (m (gLoc d)))))
  go q d c i := match q with
    | 0 => (inferInstance : BI.Storable (upEmb : UEmb _ 𝕄) (taskPts m d c i (m (aLoc d)) (m (bLoc d))))
  td q d c i := match q with
    | 0 => (inferInstance : BI.Storable (upEmb : UEmb _ 𝕄) (taskPts m d c i (outA (m (eLoc d))) (outB (m (gLoc d)))))

/-! ## The task's obligation -/

/-- The body a vector subcore runs is the task at its coordinates. -/
theorem defs₀_vector (c : Fin τ.nSC) (s : Fin τ.nSub) :
    defs₀ (F := F) (.scVector c s) 0 ()
      = SparseCore.onTile hcore0 hsub0 (fun c s => cc0__adj_body (coordsV c s)
          eV (Memref.isWhole_whole _) gV (Memref.isWhole_whole _) aV (Memref.isWhole_whole _) bV (Memref.isWhole_whole _)
          s0V (Memref.isWhole_whole _) s1V (Memref.isWhole_whole _) s2V (Memref.isWhole_whole _) s3V (Memref.isWhole_whole _)
          cc0_scoped0 cc0_scoped1 cc0_scoped2 cc0_scoped3) ⟨⟩ c s := rfl

omit [FloatOps F] in
/-- A task that waited only on its own transfers waited on nothing the launch forbids. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task meets its obligation: from its holdings at the launch contents to its holdings at the counts. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre _ O W hO).trans (wp_mono frame _ _ fun _ => waits_weaken)

/-- A core's holdings are its tasks', so it hands them out and collects them as they are. -/
theorem vecSplit : (K (F := F)).VecSplit' (P m) 0 := by
  intro d c
  show (bigSep Finset.univ fun s : Fin 16 => taskPts m d c s (m (aLoc d)) (m (bLoc d))) ⊢ |={Set.univ}=> iprop(
      (bigSep Finset.univ fun s : Fin 16 => taskPts m d c s (m (aLoc d)) (m (bLoc d)))
      ∗ ((bigSep Finset.univ fun s : Fin 16 => taskPts m d c s (outA (m (eLoc d))) (outB (m (gLoc d))))
          -∗ (bigSep Finset.univ fun s : Fin 16 => taskPts m d c s (outA (m (eLoc d))) (outB (m (gLoc d))))))
  iintro H; imodintro
  isplitl [H]; · iexact H
  iintro H; iexact H

/-- What the call takes of a device's arrays: all four, the results as they are at the launch. -/
theorem st_arrays (d : Dev nD) :
    (bigSep Finset.univ fun c : Fin ((K (F := F)).nCore 0) => (P m).st 0 d c) = arrays m d (m (aLoc d)) (m (bLoc d)) :=
  (arrays_tasks m d _ _).symm

/-- What it gives back: all four, the results at the counts. -/
theorem dn_arrays (d : Dev nD) :
    (bigSep Finset.univ fun c : Fin ((K (F := F)).nCore 0) => (P m).dn 0 d c) = arrays m d (outA (m (eLoc d))) (outB (m (gLoc d))) :=
  (arrays_tasks m d _ _).symm

/-! ## The launch's ghost state -/

/-- No pipeline has a prefetched table. -/
abbrev adm : (p : Fin 1) → (pcfgs (F := F) p).Adm := fun p => (cfgs p).toPCfg_adm

omit [FloatOps F] in
/-- The staging cells are pairwise distinct. -/
theorem cells_inj : Function.Injective (Pipeline.cellOf (nD := nD) (τ := τ) (Pipeline.pin (pcfgs (F := F)) adm)) := cellOf_inj

/-- The handshakes' launch element, the staging cells', no counter yet. -/
def u₀ : UU := (initOf (K (F := F)).hsCells (K (F := F)).hsToks,
  initOf (Pipeline.cells (Pipeline.pin (pcfgs (F := F)) adm) cells_inj) (Pipeline.launchToks (Pipeline.pin (pcfgs (F := F)) adm) cells_inj), 1)

/-- A device's share of the staging cells' ghost state: the cells at their first round and every transfer's token. -/
def stageGhost (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
/-- Nothing, however often, is nothing. -/
theorem bigSep_emp' {I : Type} (s : Finset I) : (bigSep s fun _ => iprop(emp)) = (iprop(emp) : sProp 𝕄) := bigSep_emp_const s

omit [FloatOps F] in
/-- The staging cells' launch element is every device's share of their ghost state. -/
theorem stage_deal : (BI.own (EP (F := F) (initOf (Pipeline.cells (Pipeline.pin (pcfgs (F := F)) adm) cells_inj)
        (Pipeline.launchToks (Pipeline.pin (pcfgs (F := F)) adm) cells_inj))) : sProp 𝕄)
    ⊢ |==> bigSep Finset.univ fun d : Dev nD => stageGhost (F := F) d := by
  have one : ∀ Φ : Dev nD → Fin 1 → sProp 𝕄, (bigSep Finset.univ fun d => bigSep Finset.univ fun p => Φ d p) ⊢ bigSep Finset.univ fun d => Φ d 0 :=
    fun Φ => Entails.of_eq (bigSep_congr fun d _ => bigSep_univ_of_subsingleton (0 : Fin 1))
  iintro Hu
  imod (Pipeline.fund_ghost (Pipeline.pin (pcfgs (F := F)) adm) EP cells_inj) $$ Hu with ⟨Hg, Ht⟩
  imodintro
  unfold stageGhost
  rw [bigSep_sep']
  isplitl [Hg]
  · iapply (one fun d p => Pipeline.cellsGhost (Pipeline.pin (pcfgs (F := F)) adm) EP p d); iexact Hg
  · iapply (one fun d p => Pipeline.toksInit (Pipeline.pin (pcfgs (F := F)) adm) EP p d); iexact Ht

/-- The handshakes' tokens, and each device's share of the staging ghost; the tasks need no ghost state of their own. -/
theorem hu₀ : (ownU (u₀ (F := F)) : sProp 𝕄)
    ⊢ |={Set.univ}=> iprop(BI.own (EH (initOf (K (F := F)).hsCells (K (F := F)).hsToks)) ∗ (bigSep Finset.univ fun d : Dev nD => stageGhost (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HR⟩
  ihave HR' := (own_pair_emb embR _ (1 : Counters)) $$ HR
  icases HR' with ⟨HS, -⟩
  imod (stage_deal (F := F)) $$ HS with HS
  imodintro
  isplitl [HH]; · iexact HH
  isplitl [HS]; · iexact HS
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

end Cert.Proof.Adj

end
-- ==== Proof.TcBody.lean ====
/-
  The second call's body at one grid point: what it leaves in its result block and in its scratch, as functions of
  the blocks it is handed.
-/
module

public import proofs.«01_k».proof.Proof.Setup
public import Idealize.ShloMosaic.Lib.VecWindow

@[expose] public section

set_option maxHeartbeats 1000000

noncomputable section

namespace Cert.Proof.Adj

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Tactic

variable {F : FTy → Type} [FloatOps F]

local notation "𝕄" => MT nD τ sig (HIx 1) (Elt F) ℕ UU ℕ

/-- The body's guard: the first grid point and no other. -/
theorem guard_iff : ∀ a b : Fin 4, (Scalar.cmpi .ne (Scalar.extui (Scalar.andi (Scalar.cmpi .eq (BitVec.ofNat 32 a.val) 0#32)
    (Scalar.cmpi .eq (BitVec.ofNat 32 b.val) 0#32)) : BitVec 32) 0#32 = 1#1) ↔ (a.val = 0 ∧ b.val = 0) := by decide

/-- What the body puts in its result block: a function of the two node blocks `x3` (the sources) and `x2` (the queries),
the block `x4` of edge counts, the scratch `x18` and the two weights it reads at every point. -/
def tcOut (x2 : S1x512x4096.Idx → Elt F .f32) (x3 : S1x128x64x64.Idx → Elt F .f32) (x4 : S128x512.Idx → Elt F .f32)
    (x9 : S128x64.Idx → Elt F .f32) (x14 : S64x64.Idx → Elt F .f32) (x18 : S8x64x64.Idx → Elt F .f32) :
    S1x128x64x64.Idx → Elt F .f32 :=
  k1_pay32 (k1_pay23 x3) (k1_pay24 x3) x18 (k1_pay27 (Scalar.select (Scalar.cmpi .eq 64#32 0#32) 1#32 64#32) k1_pay26)
    (k1_pay28 (k1_pay24 x3) x18 (k1_pay25 x3 x4 x2 x18) (Scalar.select (Scalar.cmpi .eq 64#32 0#32) 1#32 64#32) k1_pay26)
    (k1_pay29 (k1_pay24 x3)) (k1_pay30 (Scalar.select (Scalar.cmpi .eq 64#32 0#32) 1#32 64#32) k1_pay26) k1_pay31 x9 x14

/-- An index of one slot of the scratch. -/
def slotIx (y : S8x64x64.Idx) : S1x64x64.Idx := fun a => match a with
  | ⟨0, _⟩ => ⟨0, Nat.zero_lt_one⟩
  | ⟨1, _⟩ => y 1
  | ⟨2, _⟩ => y 2

/-- A scratch of eight slots. -/
def slots (p0 p1 p2 p3 p4 p5 p6 p7 : S1x64x64.Idx → Elt F .f32) : S8x64x64.Idx → Elt F .f32 := fun y => (match y 0 with
  | ⟨0, _⟩ => p0
  | ⟨1, _⟩ => p1
  | ⟨2, _⟩ => p2
  | ⟨3, _⟩ => p3
  | ⟨4, _⟩ => p4
  | ⟨5, _⟩ => p5
  | ⟨6, _⟩ => p6
  | ⟨_ + 7, _⟩ => p7) (slotIx y)

/-- What the first point leaves in the scratch: eight products of the weights, one per slot. -/
def tcW (x5 x6 x7 : S64x64.Idx → Elt F .f32) (x8 x10 : S1x64.Idx → Elt F .f32) (x11 : S3x64x64.Idx → Elt F .f32)
    (x12 : S5x64x64.Idx → Elt F .f32) (x13 x14 x15 : S64x64.Idx → Elt F .f32) (x16 : S1x64.Idx → Elt F .f32) :
    S8x64x64.Idx → Elt F .f32 :=
  slots (k1_pay15 (k1_pay1 x13) x6) (k1_pay16 (k1_pay1 x13) (k1_pay8 x15 x11 x12) x7) (k1_pay17 (k1_pay6 x15 x12))
    (k1_pay18 (k1_pay7 x15 x11 x12)) (k1_pay19 (k1_pay9 x15 x11 x12)) (k1_pay20 (k1_pay10 x15 x12))
    (k1_pay21 (k1_pay2 x14) (k1_pay11 x5) (k1_pay12 x5))
    (k1_pay22 (k1_pay13 (k1_pay1 x13) x16 x8) (k1_pay14 (k1_pay2 x14) x10))

/-- Eight stores, one per slot, leave each slot's payload. -/
theorem read_slots {κ : Kind} {sp : Space} (v : View sig κ sp S8x64x64 .f32) (f : v.ty.Contents (Elt F))
    (p0 p1 p2 p3 p4 p5 p6 p7 : S1x64x64.Idx → Elt F .f32) :
    v.read (Elt F) (v.writes (Elt F) f
      [⟨Rect.unit (s := S8x64x64) ![7, 0, 0] ![1, 64, 64] inb_S8x64x64_S1x64x64_7_0_0, p7⟩,
       ⟨Rect.unit (s := S8x64x64) ![6, 0, 0] ![1, 64, 64] inb_S8x64x64_S1x64x64_6_0_0, p6⟩,
       ⟨Rect.unit (s := S8x64x64) ![5, 0, 0] ![1, 64, 64] inb_S8x64x64_S1x64x64_5_0_0, p5⟩,
       ⟨Rect.unit (s := S8x64x64) ![4, 0, 0] ![1, 64, 64] inb_S8x64x64_S1x64x64_4_0_0, p4⟩,
       ⟨Rect.unit (s := S8x64x64) ![3, 0, 0] ![1, 64, 64] inb_S8x64x64_S1x64x64_3_0_0, p3⟩,
       ⟨Rect.unit (s := S8x64x64) ![2, 0, 0] ![1, 64, 64] inb_S8x64x64_S1x64x64_2_0_0, p2⟩,
       ⟨Rect.unit (s := S8x64x64) ![1, 0, 0] ![1, 64, 64] inb_S8x64x64_S1x64x64_1_0_0, p1⟩,
       ⟨Rect.unit (s := S8x64x64) ![0, 0, 0] ![1, 64, 64] inb_S8x64x64_S1x64x64_0_0_0, p0⟩])
      = slots p0 p1 p2 p3 p4 p5 p6 p7 := by
  funext y
  have hit : ∀ (k : ℕ) (inb) (w : S1x64x64.Idx → Elt F .f32) (L : List (View.Piece (Elt F) S8x64x64 .f32)), (y 0).val = k →
      v.read (Elt F) (v.writes (Elt F) f (⟨Rect.unit (s := S8x64x64) ![k, 0, 0] ![1, 64, 64] inb, w⟩ :: L)) y = w (slotIx y) := by
    intro k inb w L hk
    refine View.read_writes_cons_unit_of_mem v f inb w L y (slotIx y) rfl ?_
    intro a
    fin_cases a
    · exact hk
    · exact (Nat.zero_add _).symm
    · exact (Nat.zero_add _).symm
  have miss : ∀ (k : ℕ) (inb) (w : S1x64x64.Idx → Elt F .f32) (L : List (View.Piece (Elt F) S8x64x64 .f32)), (y 0).val < k →
      v.read (Elt F) (v.writes (Elt F) f (⟨Rect.unit (s := S8x64x64) ![k, 0, 0] ![1, 64, 64] inb, w⟩ :: L)) y
        = v.read (Elt F) (v.writes (Elt F) f L) y := fun k inb w L hk =>
    View.read_writes_cons_unit_of_not_mem v f inb w L y rfl 0 (Or.inl hk)
  unfold slots
  generalize hs : slotIx y = z at hit ⊢
  obtain ⟨n, hn⟩ : ∃ n, n = y 0 := ⟨_, rfl⟩
  rw [← hn] at hit miss ⊢
  clear hs hn
  obtain ⟨n, hn⟩ := n
  have hn8 : n < 8 := hn
  interval_cases n
  · rw [miss 7 _ _ _ (by decide : 0 < 7)]; rw [miss 6 _ _ _ (by decide : 0 < 6)]; rw [miss 5 _ _ _ (by decide : 0 < 5)]; rw [miss 4 _ _ _ (by decide : 0 < 4)]; rw [miss 3 _ _ _ (by decide : 0 < 3)]; rw [miss 2 _ _ _ (by decide : 0 < 2)]; rw [miss 1 _ _ _ (by decide : 0 < 1)]; exact hit 0 _ _ _ rfl
  · rw [miss 7 _ _ _ (by decide : 1 < 7)]; rw [miss 6 _ _ _ (by decide : 1 < 6)]; rw [miss 5 _ _ _ (by decide : 1 < 5)]; rw [miss 4 _ _ _ (by decide : 1 < 4)]; rw [miss 3 _ _ _ (by decide : 1 < 3)]; rw [miss 2 _ _ _ (by decide : 1 < 2)]; exact hit 1 _ _ _ rfl
  · rw [miss 7 _ _ _ (by decide : 2 < 7)]; rw [miss 6 _ _ _ (by decide : 2 < 6)]; rw [miss 5 _ _ _ (by decide : 2 < 5)]; rw [miss 4 _ _ _ (by decide : 2 < 4)]; rw [miss 3 _ _ _ (by decide : 2 < 3)]; exact hit 2 _ _ _ rfl
  · rw [miss 7 _ _ _ (by decide : 3 < 7)]; rw [miss 6 _ _ _ (by decide : 3 < 6)]; rw [miss 5 _ _ _ (by decide : 3 < 5)]; rw [miss 4 _ _ _ (by decide : 3 < 4)]; exact hit 3 _ _ _ rfl
  · rw [miss 7 _ _ _ (by decide : 4 < 7)]; rw [miss 6 _ _ _ (by decide : 4 < 6)]; rw [miss 5 _ _ _ (by decide : 4 < 5)]; exact hit 4 _ _ _ rfl
  · rw [miss 7 _ _ _ (by decide : 5 < 7)]; rw [miss 6 _ _ _ (by decide : 5 < 6)]; exact hit 5 _ _ _ rfl
  · rw [miss 7 _ _ _ (by decide : 6 < 7)]; exact hit 6 _ _ _ rfl
  · exact hit 7 _ _ _ rfl

/-- The body at a point other than the first: the result block is `tcOut`, everything else is kept. -/
theorem body_rest (c : Dev nD) (i : grid1.Coords) (hi : ¬ ((i 0).val = 0 ∧ (i 1).val = 0))
    (arg2 : Memref sig .tc .vmem S1x512x4096 .f32) (harg2 : arg2.IsWhole) (arg3 : Memref sig .tc .vmem S1x128x64x64 .f32) (harg3 : arg3.IsWhole)
    (arg4 : Memref sig .tc .vmem S128x512 .f32) (harg4 : arg4.IsWhole) (arg5 : Memref sig .tc .vmem S64x64 .f32) (harg5 : arg5.IsWhole)
    (arg6 : Memref sig .tc .vmem S64x64 .f32) (harg6 : arg6.IsWhole) (arg7 : Memref sig .tc .vmem S64x64 .f32) (harg7 : arg7.IsWhole)
    (arg8 : Memref sig .tc .vmem S1x64 .f32) (harg8 : arg8.IsWhole) (arg9 : Memref sig .tc .vmem S128x64 .f32) (harg9 : arg9.IsWhole)
    (arg10 : Memref sig .tc .vmem S1x64 .f32) (harg10 : arg10.IsWhole) (arg11 : Memref sig .tc .vmem S3x64x64 .f32) (harg11 : arg11.IsWhole)
    (arg12 : Memref sig .tc .vmem S5x64x64 .f32) (harg12 : arg12.IsWhole) (arg13 : Memref sig .tc .vmem S64x64 .f32) (harg13 : arg13.IsWhole)
    (arg14 : Memref sig .tc .vmem S64x64 .f32) (harg14 : arg14.IsWhole) (arg15 : Memref sig .tc .vmem S64x64 .f32) (harg15 : arg15.IsWhole)
    (arg16 : Memref sig .tc .vmem S1x64 .f32) (harg16 : arg16.IsWhole) (arg17 : Memref sig .tc .vmem S1x128x64x64 .f32) (harg17 : arg17.IsWhole)
    (arg18 : Memref sig .tc .vmem S8x64x64 .f32) (harg18 : arg18.IsWhole)
    (x2 : S1x512x4096.Idx → Elt F .f32) (x3 : S1x128x64x64.Idx → Elt F .f32) (x4 : S128x512.Idx → Elt F .f32)
    (x9 : S128x64.Idx → Elt F .f32) (x14 : S64x64.Idx → Elt F .f32) (x17 : S1x128x64x64.Idx → Elt F .f32)
    (x18 : S8x64x64.Idx → Elt F .f32)
    (Q : PUnit → sProp 𝕄) :
    iprop(owns (c : Thread nD τ) arg2 fullShare x2 ∗ owns (c : Thread nD τ) arg3 fullShare x3 ∗ owns (c : Thread nD τ) arg4 fullShare x4
        ∗ owns (c : Thread nD τ) arg9 fullShare x9 ∗ owns (c : Thread nD τ) arg14 fullShare x14 ∗ owns (c : Thread nD τ) arg17 fullShare x17
        ∗ owns (c : Thread nD τ) arg18 fullShare x18
        ∗ (iprop(owns (c : Thread nD τ) arg2 fullShare x2 ∗ owns (c : Thread nD τ) arg3 fullShare x3 ∗ owns (c : Thread nD τ) arg4 fullShare x4
          ∗ owns (c : Thread nD τ) arg9 fullShare x9 ∗ owns (c : Thread nD τ) arg14 fullShare x14 ∗ owns (c : Thread nD τ) arg17 fullShare (tcOut x2 x3 x4 x9 x14 x18)
          ∗ owns (c : Thread nD τ) arg18 fullShare x18) -∗ Q ⟨⟩))
      ⊢ wp frame (wpE (defs₀ (F := F)) Variants.none (c : Thread nD τ) none) Set.univ
          (cc1__fused_body i arg2 harg2 arg3 harg3 arg4 harg4 arg5 harg5 arg6 harg6 arg7 harg7 arg8 harg8 arg9 harg9 arg10 harg10 arg11 harg11
            arg12 harg12 arg13 harg13 arg14 harg14 arg15 harg15 arg16 harg16 arg17 harg17 arg18 harg18) Q := by
  simp only [cc1__fused_body_eq_skeleton]; unfold cc1__fused_body_skel
  rw [k1_part3_eq_skeleton]; unfold k1_part3_skel
  rw [k1_part4_eq_skeleton]; unfold k1_part4_skel
  rw [k1_part5_eq_skeleton]; unfold k1_part5_skel
  have hc := (guard_iff (i 0) (i 1)).not.2 hi
  simp only [bind_assoc, dif_neg hc, pure_bind]
  unfold owns
  iintro ⟨⟨%f2, %h2, H2⟩, ⟨%f3, %h3, H3⟩, ⟨%f4, %h4, H4⟩, ⟨%f9, %h9, H9⟩, ⟨%f14, %h14, H14⟩, ⟨%f17, %h17, H17⟩, ⟨%f18, %h18, H18⟩, HQ⟩
  sl_exec
  have e2 : View.readAt (Elt F) arg2.view (Rect.unit (s := S1x512x4096) ![0, 0, 0] ![1, 512, 4096] inb_S1x512x4096_S1x512x4096_0_0_0).toLoadRect f2 = x2 :=
    (View.readAt_full arg2.view f2 _).trans h2
  have e3 : View.readAt (Elt F) arg3.view (Rect.unit (s := S1x128x64x64) ![0, 0, 0, 0] ![1, 128, 64, 64] inb_S1x128x64x64_S1x128x64x64_0_0_0_0).toLoadRect f3 = x3 :=
    (View.readAt_full arg3.view f3 _).trans h3
  have e4 : View.readAt (Elt F) arg4.view (Rect.unit (s := S128x512) ![0, 0] ![128, 512] inb_S128x512_S128x512_0_0).toLoadRect f4 = x4 :=
    (View.readAt_full arg4.view f4 _).trans h4
  have e9 : View.readAt (Elt F) arg9.view (Rect.unit (s := S128x64) ![0, 0] ![128, 64] inb_S128x64_S128x64_0_0).toLoadRect f9 = x9 :=
    (View.readAt_full arg9.view f9 _).trans h9
  have e14 : View.readAt (Elt F) arg14.view (Rect.unit (s := S64x64) ![0, 0] ![64, 64] inb_S64x64_S64x64_0_0).toLoadRect f14 = x14 :=
    (View.readAt_full arg14.view f14 _).trans h14
  have e18 : View.readAt (Elt F) arg18.view (Rect.unit (s := S8x64x64) ![0, 0, 0] ![8, 64, 64] inb_S8x64x64_S8x64x64_0_0_0).toLoadRect f18 = x18 :=
    (View.readAt_full arg18.view f18 _).trans h18
  unfold body_rest.sl.x
  rw [e2, e3, e4, e9, e14, e18]
  sl_step
  iapply HQ
  isplitl [H2]
  · iexists _; isplitr [H2]; rotate_left; · iexact H2
    ipureintro
    exact h2
  isplitl [H3]
  · iexists _; isplitr [H3]; rotate_left; · iexact H3
    ipureintro
    exact h3
  isplitl [H4]
  · iexists _; isplitr [H4]; rotate_left; · iexact H4
    ipureintro
    exact h4
  isplitl [H9]
  · iexists _; isplitr [H9]; rotate_left; · iexact H9
    ipureintro
    exact h9
  isplitl [H14]
  · iexists _; isplitr [H14]; rotate_left; · iexact H14
    ipureintro
    exact h14
  isplitl [H17]
  · iexists _; isplitr [H17]; rotate_left; · iexact H17
    ipureintro
    exact View.read_writes_full arg17.view f17 _ _ _
  iexists _; isplitr [H18]; rotate_left; · iexact H18
  ipureintro
  exact h18

/-- The body at the first point: the scratch is filled from the weights first, then the result block is `tcOut` of it. -/
theorem body_first (c : Dev nD) (i : grid1.Coords) (hi : (i 0).val = 0 ∧ (i 1).val = 0)
    (arg2 : Memref sig .tc .vmem S1x512x4096 .f32) (harg2 : arg2.IsWhole) (arg3 : Memref sig .tc .vmem S1x128x64x64 .f32) (harg3 : arg3.IsWhole)
    (arg4 : Memref sig .tc .vmem S128x512 .f32) (harg4 : arg4.IsWhole) (arg5 : Memref sig .tc .vmem S64x64 .f32) (harg5 : arg5.IsWhole)
    (arg6 : Memref sig .tc .vmem S64x64 .f32) (harg6 : arg6.IsWhole) (arg7 : Memref sig .tc .vmem S64x64 .f32) (harg7 : arg7.IsWhole)
    (arg8 : Memref sig .tc .vmem S1x64 .f32) (harg8 : arg8.IsWhole) (arg9 : Memref sig .tc .vmem S128x64 .f32) (harg9 : arg9.IsWhole)
    (arg10 : Memref sig .tc .vmem S1x64 .f32) (harg10 : arg10.IsWhole) (arg11 : Memref sig .tc .vmem S3x64x64 .f32) (harg11 : arg11.IsWhole)
    (arg12 : Memref sig .tc .vmem S5x64x64 .f32) (harg12 : arg12.IsWhole) (arg13 : Memref sig .tc .vmem S64x64 .f32) (harg13 : arg13.IsWhole)
    (arg14 : Memref sig .tc .vmem S64x64 .f32) (harg14 : arg14.IsWhole) (arg15 : Memref sig .tc .vmem S64x64 .f32) (harg15 : arg15.IsWhole)
    (arg16 : Memref sig .tc .vmem S1x64 .f32) (harg16 : arg16.IsWhole) (arg17 : Memref sig .tc .vmem S1x128x64x64 .f32) (harg17 : arg17.IsWhole)
    (arg18 : Memref sig .tc .vmem S8x64x64 .f32) (harg18 : arg18.IsWhole)
    (x2 : S1x512x4096.Idx → Elt F .f32) (x3 : S1x128x64x64.Idx → Elt F .f32) (x4 : S128x512.Idx → Elt F .f32)
    (x5 : S64x64.Idx → Elt F .f32) (x6 : S64x64.Idx → Elt F .f32) (x7 : S64x64.Idx → Elt F .f32)
    (x8 : S1x64.Idx → Elt F .f32) (x9 : S128x64.Idx → Elt F .f32) (x10 : S1x64.Idx → Elt F .f32)
    (x11 : S3x64x64.Idx → Elt F .f32) (x12 : S5x64x64.Idx → Elt F .f32) (x13 : S64x64.Idx → Elt F .f32)
    (x14 : S64x64.Idx → Elt F .f32) (x15 : S64x64.Idx → Elt F .f32) (x16 : S1x64.Idx → Elt F .f32)
    (x17 : S1x128x64x64.Idx → Elt F .f32) (x18 : S8x64x64.Idx → Elt F .f32)
    (Q : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare x8 ∗ owns (c : Thread nD τ) arg9 fullShare x9 ∗ owns (c : Thread nD τ) arg10 fullShare x10
        ∗ owns (c : Thread nD τ) arg11 fullShare x11 ∗ owns (c : Thread nD τ) arg12 fullShare x12 ∗ owns (c : Thread nD τ) arg13 fullShare x13
        ∗ owns (c : Thread nD τ) arg14 fullShare x14 ∗ owns (c : Thread nD τ) arg15 fullShare x15 ∗ owns (c : Thread nD τ) arg16 fullShare x16
        ∗ owns (c : Thread nD τ) arg17 fullShare x17 ∗ owns (c : Thread nD τ) arg18 fullShare x18
        ∗ (iprop(owns (c : Thread nD τ) arg2 fullShare x2 ∗ owns (c : Thread nD τ) arg3 fullShare x3 ∗ owns (c : Thread nD τ) arg4 fullShare x4
          ∗ owns (c : Thread nD τ) arg5 fullShare x5 ∗ owns (c : Thread nD τ) arg6 fullShare x6 ∗ owns (c : Thread nD τ) arg7 fullShare x7
          ∗ owns (c : Thread nD τ) arg8 fullShare x8 ∗ owns (c : Thread nD τ) arg9 fullShare x9 ∗ owns (c : Thread nD τ) arg10 fullShare x10
          ∗ owns (c : Thread nD τ) arg11 fullShare x11 ∗ owns (c : Thread nD τ) arg12 fullShare x12 ∗ owns (c : Thread nD τ) arg13 fullShare x13
          ∗ owns (c : Thread nD τ) arg14 fullShare x14 ∗ owns (c : Thread nD τ) arg15 fullShare x15 ∗ owns (c : Thread nD τ) arg16 fullShare x16
          ∗ owns (c : Thread nD τ) arg17 fullShare (tcOut x2 x3 x4 x9 x14 (tcW x5 x6 x7 x8 x10 x11 x12 x13 x14 x15 x16)) ∗ owns (c : Thread nD τ) arg18 fullShare (tcW x5 x6 x7 x8 x10 x11 x12 x13 x14 x15 x16)) -∗ Q ⟨⟩))
      ⊢ wp frame (wpE (defs₀ (F := F)) Variants.none (c : Thread nD τ) none) Set.univ
          (cc1__fused_body i arg2 harg2 arg3 harg3 arg4 harg4 arg5 harg5 arg6 harg6 arg7 harg7 arg8 harg8 arg9 harg9 arg10 harg10 arg11 harg11
            arg12 harg12 arg13 harg13 arg14 harg14 arg15 harg15 arg16 harg16 arg17 harg17 arg18 harg18) Q := by
  simp only [cc1__fused_body_eq_skeleton]; unfold cc1__fused_body_skel
  rw [k1_part3_eq_skeleton]; unfold k1_part3_skel
  rw [k1_part4_eq_skeleton]; unfold k1_part4_skel
  rw [k1_part5_eq_skeleton]; unfold k1_part5_skel
  have hc := (guard_iff (i 0) (i 1)).2 hi
  simp only [bind_assoc, dif_pos hc, pure_bind]
  rw [k1_part1_eq_skeleton]; unfold k1_part1_skel
  rw [k1_part2_eq_skeleton]; unfold k1_part2_skel
  simp only [bind_assoc, pure_bind]
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, HQ⟩
  sl_exec
  have e2 : View.readAt (Elt F) arg2.view (Rect.unit (s := S1x512x4096) ![0, 0, 0] ![1, 512, 4096] inb_S1x512x4096_S1x512x4096_0_0_0).toLoadRect f2 = x2 :=
    (View.readAt_full arg2.view f2 _).trans h2
  have e3 : View.readAt (Elt F) arg3.view (Rect.unit (s := S1x128x64x64) ![0, 0, 0, 0] ![1, 128, 64, 64] inb_S1x128x64x64_S1x128x64x64_0_0_0_0).toLoadRect f3 = x3 :=
    (View.readAt_full arg3.view f3 _).trans h3
  have e4 : View.readAt (Elt F) arg4.view (Rect.unit (s := S128x512) ![0, 0] ![128, 512] inb_S128x512_S128x512_0_0).toLoadRect f4 = x4 :=
    (View.readAt_full arg4.view f4 _).trans h4
  have e5 : View.readAt (Elt F) arg5.view (Rect.unit (s := S64x64) ![0, 0] ![64, 64] inb_S64x64_S64x64_0_0).toLoadRect f5 = x5 :=
    (View.readAt_full arg5.view f5 _).trans h5
  have e6 : View.readAt (Elt F) arg6.view (Rect.unit (s := S64x64) ![0, 0] ![64, 64] inb_S64x64_S64x64_0_0).toLoadRect f6 = x6 :=
    (View.readAt_full arg6.view f6 _).trans h6
  have e7 : View.readAt (Elt F) arg7.view (Rect.unit (s := S64x64) ![0, 0] ![64, 64] inb_S64x64_S64x64_0_0).toLoadRect f7 = x7 :=
    (View.readAt_full arg7.view f7 _).trans h7
  have e8 : View.readAt (Elt F) arg8.view (Rect.unit (s := S1x64) ![0, 0] ![1, 64] inb_S1x64_S1x64_0_0).toLoadRect f8 = x8 :=
    (View.readAt_full arg8.view f8 _).trans h8
  have e9 : View.readAt (Elt F) arg9.view (Rect.unit (s := S128x64) ![0, 0] ![128, 64] inb_S128x64_S128x64_0_0).toLoadRect f9 = x9 :=
    (View.readAt_full arg9.view f9 _).trans h9
  have e10 : View.readAt (Elt F) arg10.view (Rect.unit (s := S1x64) ![0, 0] ![1, 64] inb_S1x64_S1x64_0_0).toLoadRect f10 = x10 :=
    (View.readAt_full arg10.view f10 _).trans h10
  have e11 : View.readAt (Elt F) arg11.view (Rect.unit (s := S3x64x64) ![0, 0, 0] ![3, 64, 64] inb_S3x64x64_S3x64x64_0_0_0).toLoadRect f11 = x11 :=
    (View.readAt_full arg11.view f11 _).trans h11
  have e12 : View.readAt (Elt F) arg12.view (Rect.unit (s := S5x64x64) ![0, 0, 0] ![5, 64, 64] inb_S5x64x64_S5x64x64_0_0_0).toLoadRect f12 = x12 :=
    (View.readAt_full arg12.view f12 _).trans h12
  have e13 : View.readAt (Elt F) arg13.view (Rect.unit (s := S64x64) ![0, 0] ![64, 64] inb_S64x64_S64x64_0_0).toLoadRect f13 = x13 :=
    (View.readAt_full arg13.view f13 _).trans h13
  have e14 : View.readAt (Elt F) arg14.view (Rect.unit (s := S64x64) ![0, 0] ![64, 64] inb_S64x64_S64x64_0_0).toLoadRect f14 = x14 :=
    (View.readAt_full arg14.view f14 _).trans h14
  have e15 : View.readAt (Elt F) arg15.view (Rect.unit (s := S64x64) ![0, 0] ![64, 64] inb_S64x64_S64x64_0_0).toLoadRect f15 = x15 :=
    (View.readAt_full arg15.view f15 _).trans h15
  have e16 : View.readAt (Elt F) arg16.view (Rect.unit (s := S1x64) ![0, 0] ![1, 64] inb_S1x64_S1x64_0_0).toLoadRect f16 = x16 :=
    (View.readAt_full arg16.view f16 _).trans h16
  unfold body_first.sl.x body_first.sl.x_1 body_first.sl.H18_8
  rw [e2, e3, e4, e5, e6, e7, e8, e9, e10, e11, e12, e13, e14, e15, e16]
  have e18 : View.readAt (Elt F) arg18.view (Rect.unit (s := S8x64x64) ![0, 0, 0] ![8, 64, 64] inb_S8x64x64_S8x64x64_0_0_0).toLoadRect
      (arg18.view.writes (Elt F) arg18.view.junk
        [⟨Rect.unit (s := S8x64x64) ![7, 0, 0] ![1, 64, 64] inb_S8x64x64_S1x64x64_7_0_0, k1_pay22 (k1_pay13 (k1_pay1 x13) x16 x8) (k1_pay14 (k1_pay2 x14) x10)⟩,
          ⟨Rect.unit (s := S8x64x64) ![6, 0, 0] ![1, 64, 64] inb_S8x64x64_S1x64x64_6_0_0, k1_pay21 (k1_pay2 x14) (k1_pay11 x5) (k1_pay12 x5)⟩,
          ⟨Rect.unit (s := S8x64x64) ![5, 0, 0] ![1, 64, 64] inb_S8x64x64_S1x64x64_5_0_0, k1_pay20 (k1_pay10 x15 x12)⟩,
          ⟨Rect.unit (s := S8x64x64) ![4, 0, 0] ![1, 64, 64] inb_S8x64x64_S1x64x64_4_0_0, k1_pay19 (k1_pay9 x15 x11 x12)⟩,
          ⟨Rect.unit (s := S8x64x64) ![3, 0, 0] ![1, 64, 64] inb_S8x64x64_S1x64x64_3_0_0, k1_pay18 (k1_pay7 x15 x11 x12)⟩,
          ⟨Rect.unit (s := S8x64x64) ![2, 0, 0] ![1, 64, 64] inb_S8x64x64_S1x64x64_2_0_0, k1_pay17 (k1_pay6 x15 x12)⟩,
          ⟨Rect.unit (s := S8x64x64) ![1, 0, 0] ![1, 64, 64] inb_S8x64x64_S1x64x64_1_0_0, k1_pay16 (k1_pay1 x13) (k1_pay8 x15 x11 x12) x7⟩,
          ⟨Rect.unit (s := S8x64x64) ![0, 0, 0] ![1, 64, 64] inb_S8x64x64_S1x64x64_0_0_0, k1_pay15 (k1_pay1 x13) x6⟩]) = tcW x5 x6 x7 x8 x10 x11 x12 x13 x14 x15 x16 :=
    (View.readAt_full arg18.view _ _).trans (read_slots arg18.view _ _ _ _ _ _ _ _ _)
  unfold View.readCov
  rw [e18]
  sl_step
  iapply HQ
  isplitl [H2]
  · iexists _; isplitr [H2]; rotate_left; · iexact H2
    ipureintro
    exact h2
  isplitl [H3]
  · iexists _; isplitr [H3]; rotate_left; · iexact H3
    ipureintro
    exact h3
  isplitl [H4]
  · iexists _; isplitr [H4]; rotate_left; · iexact H4
    ipureintro
    exact h4
  isplitl [H5]
  · iexists _; isplitr [H5]; rotate_left; · iexact H5
    ipureintro
    exact h5
  isplitl [H6]
  · iexists _; isplitr [H6]; rotate_left; · iexact H6
    ipureintro
    exact h6
  isplitl [H7]
  · iexists _; isplitr [H7]; rotate_left; · iexact H7
    ipureintro
    exact h7
  isplitl [H8]
  · iexists _; isplitr [H8]; rotate_left; · iexact H8
    ipureintro
    exact h8
  isplitl [H9]
  · iexists _; isplitr [H9]; rotate_left; · iexact H9
    ipureintro
    exact h9
  isplitl [H10]
  · iexists _; isplitr [H10]; rotate_left; · iexact H10
    ipureintro
    exact h10
  isplitl [H11]
  · iexists _; isplitr [H11]; rotate_left; · iexact H11
    ipureintro
    exact h11
  isplitl [H12]
  · iexists _; isplitr [H12]; rotate_left; · iexact H12
    ipureintro
    exact h12
  isplitl [H13]
  · iexists _; isplitr [H13]; rotate_left; · iexact H13
    ipureintro
    exact h13
  isplitl [H14]
  · iexists _; isplitr [H14]; rotate_left; · iexact H14
    ipureintro
    exact h14
  isplitl [H15]
  · iexists _; isplitr [H15]; rotate_left; · iexact H15
    ipureintro
    exact h15
  isplitl [H16]
  · iexists _; isplitr [H16]; rotate_left; · iexact H16
    ipureintro
    exact h16
  isplitl [H17]
  · iexists _; isplitr [H17]; rotate_left; · iexact H17
    ipureintro
    exact View.read_writes_full arg17.view f17 _ _ _
  iexists _; isplitr [H18]; rotate_left; · iexact H18
  ipureintro
  exact read_slots arg18.view f18 _ _ _ _ _ _ _ _

end Cert.Proof.Adj

end
-- ==== Proof.TcRegion.lean ====
/-
  The second call: what each grid point is handed and leaves, its obligation at every point, and the call as one
  step of the TensorCore's program, from any contents of the device's arrays.
-/
module

public import proofs.«01_k».proof.Proof.Split
public import proofs.«01_k».proof.Proof.TcBody
public import Idealize.ShloMosaic.Lib.Pipeline.RegionsLoop
public import Idealize.ShloMosaic.Lib.Pipeline.RegionArrays
public import Idealize.ShloMosaic.Lib.Pipeline.FrameBody
public import Idealize.ShloMosaic.Lib.Pipeline.Value

@[expose] public section

set_option maxHeartbeats 1000000

noncomputable section

namespace Cert.Proof.Adj

open Cert.KernelIdeal Cert.KernelIdeal.Gen

open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (W : (d : Dev nD) → Valuation τ sig (Elt F))

/-! ## What a grid point is handed, and what it leaves -/

/-- Window `w`'s array at entry. -/
abbrev arrIn (c : Dev nD) (w : Fin 16) : Buf (Elt F) ((cfg1.win w).arr.view.loc (c : Thread nD τ)) :=
  W c (Proc.devRef .tc (Pipeline.arrRef spec1 w))

/-- Window `w`'s block at grid point `t`. -/
abbrev blkAt (c : Dev nD) (w : Fin 16) (t : Fin cfg1.N) : ((cfg1.win w).xblock (cfg1.grid.coords t)).Idx → Elt F (cfg1.win w).elt :=
  ((cfg1.win w).blk t).view.read (Elt F) (arrIn W c w)

/-- The scratch the first point fills. -/
def scr (c : Dev nD) : S8x64x64.Idx → Elt F .f32 :=
  tcW (blkAt W c 3 t1_0) (blkAt W c 4 t1_0) (blkAt W c 5 t1_0) (blkAt W c 6 t1_0) (blkAt W c 8 t1_0) (blkAt W c 9 t1_0)
    (blkAt W c 10 t1_0) (blkAt W c 11 t1_0) (blkAt W c 12 t1_0) (blkAt W c 13 t1_0) (blkAt W c 14 t1_0)

/-- The result block of grid point `t`. -/
def outAt (c : Dev nD) (t : Fin cfg1.N) : S1x128x64x64.Idx → Elt F .f32 :=
  tcOut (blkAt W c 0 t) (blkAt W c 1 t) (blkAt W c 2 t) (blkAt W c 7 t) (blkAt W c 12 t) (scr W c)

/-- The scratch between points: anything before the first, what the first leaves from then on. -/
def inv (c : Dev nD) (n : ℕ) : sProp 𝕄 :=
  if n = 0 then iprop(∃ f : Buf (Elt F) ((c : Thread nD τ).loc cc1_scratch0), ((c : Thread nD τ).loc cc1_scratch0) ↦{fullShare} f)
  else owns (c : Thread nD τ) (Memref.whole cc1_scratch0) fullShare (scr W c)

/-- Before the first step the scratch holds anything. -/
theorem inv_zero (c : Dev nD) : inv W c 0 = iprop(∃ f : Buf (Elt F) ((c : Thread nD τ).loc cc1_scratch0), ((c : Thread nD τ).loc cc1_scratch0) ↦{fullShare} f) :=
  if_pos rfl

/-- After the first step the scratch holds the fused weights. -/
theorem inv_pos (c : Dev nD) {n : ℕ} (h : n ≠ 0) : inv W c n = owns (c : Thread nD τ) (Memref.whole cc1_scratch0) fullShare (scr W c) := if_neg h

/-- What the second call is given and leaves, window by window. -/
def dat1 (c : Dev nD) : Pipeline.Dat τ (Elt F) (HIx 1) ℕ UU ℕ cfg1 c where
  A w := arrIn W c w
  after w t := match w with
    | ⟨0, _⟩ => blkAt W c 0 t
    | ⟨1, _⟩ => blkAt W c 1 t
    | ⟨2, _⟩ => blkAt W c 2 t
    | ⟨3, _⟩ => blkAt W c 3 t
    | ⟨4, _⟩ => blkAt W c 4 t
    | ⟨5, _⟩ => blkAt W c 5 t
    | ⟨6, _⟩ => blkAt W c 6 t
    | ⟨7, _⟩ => blkAt W c 7 t
    | ⟨8, _⟩ => blkAt W c 8 t
    | ⟨9, _⟩ => blkAt W c 9 t
    | ⟨10, _⟩ => blkAt W c 10 t
    | ⟨11, _⟩ => blkAt W c 11 t
    | ⟨12, _⟩ => blkAt W c 12 t
    | ⟨13, _⟩ => blkAt W c 13 t
    | ⟨14, _⟩ => blkAt W c 14 t
    | ⟨15, _⟩ => outAt W c t
    | ⟨_ + 16, h⟩ => absurd h (Nat.not_lt.2 (Nat.le_add_left _ _))
  Φ t := inv W c t.val
  q _ := fullShare
  owed _ := 0
  recorded _ := {p | (K (F := F)).lev (T c, p.1) p.2 ≤ 8 * 1}

/-- The same, named by the call. -/
def pdats : (p : Fin 1) → (c : Dev nD) → Pipeline.Dat τ (Elt F) (HIx 1) ℕ UU ℕ (Pipeline.pin (pcfgs (F := F)) adm p) c
  | 0 => dat1 W

/-- An input window's buffer holds its block at every point, fetched there or not. -/
theorem before_in (c : Dev nD) (t : Fin cfg1.N) : (w : Fin 16) → (hw : w ≠ 15) → ∀ d, (dat1 W c).before w t d = (dat1 W c).fetched w t d
  | ⟨0, _⟩, _, d => (dat1 W c).before_in_eq_fetched 0 rfl (fun _ => rfl) (fun _ _ _ => rfl) (fun _ => rfl) t d
  | ⟨1, _⟩, _, d => (dat1 W c).before_in_eq_fetched 1 rfl (fun _ => rfl) (fun _ _ _ => rfl) (fun _ => rfl) t d
  | ⟨2, _⟩, _, d => (dat1 W c).before_in_eq_fetched 2 rfl (fun _ => rfl) (fun _ _ _ => rfl) (fun _ => rfl) t d
  | ⟨3, _⟩, _, d => (dat1 W c).before_in_eq_fetched 3 rfl (fun _ => rfl) (fun _ _ _ => rfl) (fun _ => rfl) t d
  | ⟨4, _⟩, _, d => (dat1 W c).before_in_eq_fetched 4 rfl (fun _ => rfl) (fun _ _ _ => rfl) (fun _ => rfl) t d
  | ⟨5, _⟩, _, d => (dat1 W c).before_in_eq_fetched 5 rfl (fun _ => rfl) (fun _ _ _ => rfl) (fun _ => rfl) t d
  | ⟨6, _⟩, _, d => (dat1 W c).before_in_eq_fetched 6 rfl (fun _ => rfl) (fun _ _ _ => rfl) (fun _ => rfl) t d
  | ⟨7, _⟩, _, d => (dat1 W c).before_in_eq_fetched 7 rfl (fun _ => rfl) (fun _ _ _ => rfl) (fun _ => rfl) t d
  | ⟨8, _⟩, _, d => (dat1 W c).before_in_eq_fetched 8 rfl (fun _ => rfl) (fun _ _ _ => rfl) (fun _ => rfl) t d
  | ⟨9, _⟩, _, d => (dat1 W c).before_in_eq_fetched 9 rfl (fun _ => rfl) (fun _ _ _ => rfl) (fun _ => rfl) t d
  | ⟨10, _⟩, _, d => (dat1 W c).before_in_eq_fetched 10 rfl (fun _ => rfl) (fun _ _ _ => rfl) (fun _ => rfl) t d
  | ⟨11, _⟩, _, d => (dat1 W c).before_in_eq_fetched 11 rfl (fun _ => rfl) (fun _ _ _ => rfl) (fun _ => rfl) t d
  | ⟨12, _⟩, _, d => (dat1 W c).before_in_eq_fetched 12 rfl (fun _ => rfl) (fun _ _ _ => rfl) (fun _ => rfl) t d
  | ⟨13, _⟩, _, d => (dat1 W c).before_in_eq_fetched 13 rfl (fun _ => rfl) (fun _ _ _ => rfl) (fun _ => rfl) t d
  | ⟨14, _⟩, _, d => (dat1 W c).before_in_eq_fetched 14 rfl (fun _ => rfl) (fun _ _ _ => rfl) (fun _ => rfl) t d
  | ⟨15, _⟩, hw, _ => absurd rfl hw
  | ⟨_ + 16, h⟩, _, _ => absurd h (Nat.not_lt.2 (Nat.le_add_left _ _))

/-- A grid point's coordinates are both zero at the first point only. -/
theorem coords_zero : ∀ t : Fin grid1.N, ((grid1.coords t 0).val = 0 ∧ (grid1.coords t 1).val = 0) ↔ t.val = 0 := by decide

/-- The body's obligation at every grid point. -/
theorem body1 (c : Dev nD) : Pipeline.BodyObligation (dat1 W c) defs₀ 𝒱₀ none Set.univ := fun t => by
  rw [bigSep_W1, bigSep_W1]
  simp only
  rw [show (dat1 W c).owesAt none t.succ = (dat1 W c).owesAt none t.castSucc from rfl,
    show (dat1 W c).Φ t.castSucc = inv W c t.val from rfl, show (dat1 W c).Φ t.succ = inv W c (t.val + 1) from rfl]
  have e0 : ∀ d, (dat1 W c).before 0 t d = blkAt W c 0 t := before_in W c t 0 (by decide)
  have e1 : ∀ d, (dat1 W c).before 1 t d = blkAt W c 1 t := before_in W c t 1 (by decide)
  have e2 : ∀ d, (dat1 W c).before 2 t d = blkAt W c 2 t := before_in W c t 2 (by decide)
  have e3 : ∀ d, (dat1 W c).before 3 t d = blkAt W c 3 t := before_in W c t 3 (by decide)
  have e4 : ∀ d, (dat1 W c).before 4 t d = blkAt W c 4 t := before_in W c t 4 (by decide)
  have e5 : ∀ d, (dat1 W c).before 5 t d = blkAt W c 5 t := before_in W c t 5 (by decide)
  have e6 : ∀ d, (dat1 W c).before 6 t d = blkAt W c 6 t := before_in W c t 6 (by decide)
  have e7 : ∀ d, (dat1 W c).before 7 t d = blkAt W c 7 t := before_in W c t 7 (by decide)
  have e8 : ∀ d, (dat1 W c).before 8 t d = blkAt W c 8 t := before_in W c t 8 (by decide)
  have e9 : ∀ d, (dat1 W c).before 9 t d = blkAt W c 9 t := before_in W c t 9 (by decide)
  have e10 : ∀ d, (dat1 W c).before 10 t d = blkAt W c 10 t := before_in W c t 10 (by decide)
  have e11 : ∀ d, (dat1 W c).before 11 t d = blkAt W c 11 t := before_in W c t 11 (by decide)
  have e12 : ∀ d, (dat1 W c).before 12 t d = blkAt W c 12 t := before_in W c t 12 (by decide)
  have e13 : ∀ d, (dat1 W c).before 13 t d = blkAt W c 13 t := before_in W c t 13 (by decide)
  have e14 : ∀ d, (dat1 W c).before 14 t d = blkAt W c 14 t := before_in W c t 14 (by decide)
  have a0 : (dat1 W c).after 0 t = blkAt W c 0 t := rfl
  have a1 : (dat1 W c).after 1 t = blkAt W c 1 t := rfl
  have a2 : (dat1 W c).after 2 t = blkAt W c 2 t := rfl
  have a3 : (dat1 W c).after 3 t = blkAt W c 3 t := rfl
  have a4 : (dat1 W c).after 4 t = blkAt W c 4 t := rfl
  have a5 : (dat1 W c).after 5 t = blkAt W c 5 t := rfl
  have a6 : (dat1 W c).after 6 t = blkAt W c 6 t := rfl
  have a7 : (dat1 W c).after 7 t = blkAt W c 7 t := rfl
  have a8 : (dat1 W c).after 8 t = blkAt W c 8 t := rfl
  have a9 : (dat1 W c).after 9 t = blkAt W c 9 t := rfl
  have a10 : (dat1 W c).after 10 t = blkAt W c 10 t := rfl
  have a11 : (dat1 W c).after 11 t = blkAt W c 11 t := rfl
  have a12 : (dat1 W c).after 12 t = blkAt W c 12 t := rfl
  have a13 : (dat1 W c).after 13 t = blkAt W c 13 t := rfl
  have a14 : (dat1 W c).after 14 t = blkAt W c 14 t := rfl
  have a15 : (dat1 W c).after 15 t = outAt W c t := rfl
  simp only [e0, e1, e2, e3, e4, e5, e6, e7, e8, e9, e10, e11, e12, e13, e14, a0, a1, a2, a3, a4, a5, a6, a7, a8, a9, a10, a11, a12, a13, a14, a15]
  change _ ⊢ wp frame (wpE (defs₀ (F := F)) 𝒱₀ (c : Thread nD τ) none) Set.univ (bodyAt1 t) _
  by_cases ht : t.val = 0
  · obtain rfl : t = t1_0 := Fin.ext ht
    rw [show inv W c (t1_0 : Fin cfg1.N).val = iprop(∃ f : Buf (Elt F) ((c : Thread nD τ).loc cc1_scratch0), ((c : Thread nD τ).loc cc1_scratch0) ↦{fullShare} f) from if_pos rfl,
      show inv W c ((t1_0 : Fin cfg1.N).val + 1) = owns (c : Thread nD τ) (Memref.whole cc1_scratch0) fullShare (scr W c) from if_neg (Nat.succ_ne_zero _)]
    iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    icases HΦ with ⟨%fs, Hs⟩
    have hb := fun x17 x18 => body_first c (grid1.coords t1_0) ((coords_zero t1_0).2 rfl) (win1_0.stage (cfg1.slots t1_0 0)) (hstage1_0 ((cfg1.slots t1_0 0).cast nbuf1_0)) (win1_1.stage (cfg1.slots t1_0 1)) (hstage1_1 ((cfg1.slots t1_0 1).cast nbuf1_1)) (win1_2.stage (cfg1.slots t1_0 2)) (hstage1_2 ((cfg1.slots t1_0 2).cast nbuf1_2)) (win1_3.stage (cfg1.slots t1_0 3)) (hstage1_3 ((cfg1.slots t1_0 3).cast nbuf1_3)) (win1_4.stage (cfg1.slots t1_0 4)) (hstage1_4 ((cfg1.slots t1_0 4).cast nbuf1_4)) (win1_5.stage (cfg1.slots t1_0 5)) (hstage1_5 ((cfg1.slots t1_0 5).cast nbuf1_5)) (win1_6.stage (cfg1.slots t1_0 6)) (hstage1_6 ((cfg1.slots t1_0 6).cast nbuf1_6)) (win1_7.stage (cfg1.slots t1_0 7)) (hstage1_7 ((cfg1.slots t1_0 7).cast nbuf1_7)) (win1_8.stage (cfg1.slots t1_0 8)) (hstage1_8 ((cfg1.slots t1_0 8).cast nbuf1_8)) (win1_9.stage (cfg1.slots t1_0 9)) (hstage1_9 ((cfg1.slots t1_0 9).cast nbuf1_9)) (win1_10.stage (cfg1.slots t1_0 10)) (hstage1_10 ((cfg1.slots t1_0 10).cast nbuf1_10)) (win1_11.stage (cfg1.slots t1_0 11)) (hstage1_11 ((cfg1.slots t1_0 11).cast nbuf1_11)) (win1_12.stage (cfg1.slots t1_0 12)) (hstage1_12 ((cfg1.slots t1_0 12).cast nbuf1_12)) (win1_13.stage (cfg1.slots t1_0 13)) (hstage1_13 ((cfg1.slots t1_0 13).cast nbuf1_13)) (win1_14.stage (cfg1.slots t1_0 14)) (hstage1_14 ((cfg1.slots t1_0 14).cast nbuf1_14)) (win1_15.stage (cfg1.slots t1_0 15)) (hstage1_15 ((cfg1.slots t1_0 15).cast nbuf1_15)) (Memref.whole cc1_scratch0) (Memref.isWhole_whole _) (blkAt W c 0 t1_0) (blkAt W c 1 t1_0) (blkAt W c 2 t1_0) (blkAt W c 3 t1_0) (blkAt W c 4 t1_0) (blkAt W c 5 t1_0) (blkAt W c 6 t1_0) (blkAt W c 7 t1_0) (blkAt W c 8 t1_0) (blkAt W c 9 t1_0) (blkAt W c 10 t1_0) (blkAt W c 11 t1_0) (blkAt W c 12 t1_0) (blkAt W c 13 t1_0) (blkAt W c 14 t1_0) x17 x18
    iapply (hb _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [Hs]; · rw [owns_whole]; iexact Hs
    iintro ⟨H0, H1, H2, H3, H4, H5, H6, H7, H8, H9, H10, H11, H12, H13, H14, H15, Hs⟩
    isplitl [Hs]; · iexact Hs
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · unfold inv
    rw [if_neg ht, if_neg (Nat.succ_ne_zero _)]
    iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    have hb := fun x17 => body_rest c (grid1.coords t) (fun h => ht ((coords_zero t).1 h)) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (win1_14.stage (cfg1.slots t 14)) (hstage1_14 ((cfg1.slots t 14).cast nbuf1_14)) (win1_15.stage (cfg1.slots t 15)) (hstage1_15 ((cfg1.slots t 15).cast nbuf1_15)) (Memref.whole cc1_scratch0) (Memref.isWhole_whole _) (blkAt W c 0 t) (blkAt W c 1 t) (blkAt W c 2 t) (blkAt W c 7 t) (blkAt W c 12 t) x17 (scr W c)
    iapply (hb _ _)
    isplitl [H0]; · iexact H0
    isplitl [H1]; · iexact H1
    isplitl [H2]; · iexact H2
    isplitl [H7]; · iexact H7
    isplitl [H12]; · iexact H12
    isplitl [H15]; · iexact H15
    isplitl [HΦ]; · iexact HΦ
    iintro ⟨H0, H1, H2, H7, H12, H15, Hs⟩
    isplitl [Hs]; · iexact Hs
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

/-! ## The call as one step -/

/-- The device's arrays after the second call: its result at what the grid points wrote. -/
def Wout (c : Dev nD) : Valuation τ sig (Elt F) :=
  Function.update (W c) (Proc.devRef .tc main_v13) ((dat1 W c).arrAt 15 cfg1.N)

/-- What the TensorCore owes between its calls: nothing, its recorded waits below the next call's. -/
abbrev debt (c : Dev nD) : sProp 𝕄 :=
  iprop(∃ X : Waits sig (HIx 1), ⌜(K (F := F)).WBelow (T c) X (8 * 1)⌝ ∗ owes (T c) (0 : CellTallies nD τ sig (HIx 1)) X)

/-- Every input's array is left as it was; the result's is the updated one. -/
theorem arr_out (c : Dev nD) (w : Fin 16) : (dat1 W c).arrAt w cfg1.N = Wout W c (Proc.devRef .tc (Pipeline.arrRef spec1 w)) := by
  by_cases hw : w = 15
  · subst hw; unfold Wout; exact (Function.update_self (Proc.devRef (τ := τ) .tc main_v13) _ (W c)).symm
  · rw [(dat1 W c).arrAt_in w ((by decide : ∀ w : Fin 16, w ≠ 15 → (win1 w).isOut = false) w hw)]
    unfold Wout
    exact (Function.update_of_ne ((by decide : ∀ w : Fin 16, w ≠ 15 → (Proc.devRef (τ := τ) .tc (Pipeline.arrRef spec1 w)) ≠ Proc.devRef .tc main_v13) w hw) _ _).symm

/-- The second call: the device's arrays in, the same arrays with the result out. -/
def reg : Pipeline.RegionSeg (pcfgs (F := F)) adm (pdats W) (none : HIx 1) defs₀ 𝒱₀ (K (F := F)).L (K (F := F)).lev 0 where
  win := launch1.win.to₀
  block_pos := block_pos1
  stage_whole := stage_whole1
  K := PEmpty
  osem k := k.elim
  ho := Pipeline.OwnSemFacts.none _
  hbody c := (body1 W c).loose
  hwaits c := Pipeline.cellsWaits_intro _ _ _ _ _ fun _ _ _ => (K (F := F)).mayWait_none _ fun _ => rfl
  pre c := iprop(StableHlo.held (T c) (Pipeline.ucRefs τ sig) (W c) ∗ debt c)
  post c := iprop(StableHlo.held (T c) (Pipeline.ucRefs τ sig) (Wout W c) ∗ debt c)
  X _ := iprop(emp)
  Y _ := iprop(emp)
  Z c := Pipeline.unscopedRest spec1 c (fun b => W c (Proc.devRef .tc b))
  hentry c := by
    rw [Pipeline.ownSems0_none, Pipeline.prefHeld_of_none _ rfl, ← Pipeline.unscopedBufs_held c (W c)]
    iintro ⟨⟨HA, %X, %hX, HO⟩, -, -⟩
    imodintro
    ihave H := (Pipeline.arrays_of_unscopedBufs (pcfgs (F := F)) adm (pdats W) (p := 0) winFacts1 arr_whole1 c
      ((dat1 W c).share_full fun _ => rfl) (fun b => W c (Proc.devRef .tc b)) (fun _ => rfl)) $$ HA
    icases H with ⟨HA, HZ⟩
    isplitl [HA]; · iexact HA
    isplitr; · iempintro
    isplitl [HO]
    · unfold Pipeline.Dat.owesAt Pipeline.owesWithin
      iexists X; isplitr
      · ipureintro; exact fun p hp => Or.inl (hX p hp)
      · iexact HO
    isplitr; · iempintro
    iexact HZ
  hin c := by
    rw [show (pdats W 0 c).Φ 0 = iprop(∃ f : Buf (Elt F) ((c : Thread nD τ).loc cc1_scratch0), ((c : Thread nD τ).loc cc1_scratch0) ↦{fullShare} f) from inv_zero W c,
      show (Pipeline.scopedRest (Pipeline.pin (pcfgs (F := F)) adm 0).spec c : sProp 𝕄) = _ from scopedRest1_eq c]
    iintro ⟨-, -, H⟩; iexact H
  hout c := by
    rw [show (pdats W 0 c).Φ (Fin.last _) = owns (c : Thread nD τ) (Memref.whole cc1_scratch0) fullShare (scr W c) from inv_pos W c (by decide : (16 : ℕ) ≠ 0), Pipeline.ownSems0_none,
      show (Pipeline.scopedRest (Pipeline.pin (pcfgs (F := F)) adm 0).spec c : sProp 𝕄) = _ from scopedRest1_eq c, owns_whole]
    iintro H
    isplitr; · iempintro
    isplitr; · iempintro
    iexists _; iexact H
  hexit c := by
    iintro ⟨HA, HO, -, HZ⟩
    imodintro
    isplitl [HA HZ]
    · rw [← Pipeline.unscopedBufs_held c (Wout W c)]
      iapply (Pipeline.unscopedBufs_of_arrays (pcfgs (F := F)) adm (p := 0) winFacts1 arr_whole1 c (pdats W)
        ((dat1 W c).share_full fun _ => rfl) (fun b => W c (Proc.devRef .tc b)) (fun b => Wout W c (Proc.devRef .tc b)) _ (arr_out W c)
        (fun b hb => Function.update_of_ne (fun h => hb (Finset.mem_image.2 ⟨15, Finset.mem_univ _, (Proc.devRef_injective _ h).symm⟩)) _ _))
      isplitl [HA]; · iexact HA
      iexact HZ
    · unfold Pipeline.Dat.owesAt Pipeline.owesWithin
      icases HO with ⟨%X, %hX, HO⟩
      iexists X; isplitr
      · ipureintro
        intro p hp
        rcases hX hp with h | ⟨w, s, rfl⟩
        · exact h
        · exact Nat.zero_le _
      · iexact HO

end Cert.Proof.Adj

end
-- ==== Proof.Main.lean ====
/-
  The TensorCore's program: the adjacency call, the layout changes between the calls, the second call; and the run of
  the whole program.
-/
module

public import proofs.«01_k».proof.Proof.TcRegion
public import Idealize.ShloMosaic.Lib.Pipeline.Frame

@[expose] public section

noncomputable section

namespace Cert.Proof.Adj

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf)

variable {F : FTy → Type}

local notation "𝕄" => MT nD τ sig (HIx 1) (Elt F) ℕ UU ℕ

variable (m : (ℓ : Loc nD τ sig) → Buf (Elt F) ℓ)

variable [FloatOps F] (ρ : Dev nD → PrngReg)

/-! ## The arrays before and after the call -/

/-- The graph's edge list. -/
abbrev e' : DevRef τ sig := Proc.devRef .tc main_arg1
/-- The feature graph's edge list. -/
abbrev g' : DevRef τ sig := Proc.devRef .tc main_arg2
/-- The SparseCore's first result. -/
abbrev a' : DevRef τ sig := Proc.devRef .tc main_v0_0
/-- The SparseCore's second result. -/
abbrev b' : DevRef τ sig := Proc.devRef .tc main_v0_1

/-- The four arrays of the call. -/
abbrev four : Finset (DevRef τ sig) := {e', g', a', b'}

/-- The device's arrays at the launch. -/
def V0 (d : Dev nD) : Valuation τ sig (Elt F) := fun b => m (d, b)

/-- The device's arrays after the call: the two results at the counts. -/
def V1 (d : Dev nD) : Valuation τ sig (Elt F) :=
  Function.update (Function.update (V0 m d) a' (outA (m (eLoc d)))) b' (outB (m (gLoc d)))

/-- The first result after the SparseCore's call. -/
theorem V1_a (d : Dev nD) : V1 m d a' = outA (m (eLoc d)) := by
  unfold V1; rw [Function.update_of_ne (by decide), Function.update_self]
/-- The second result after the SparseCore's call. -/
theorem V1_b (d : Dev nD) : V1 m d b' = outB (m (gLoc d)) := by
  unfold V1; rw [Function.update_self]
/-- Every other array is as at the launch. -/
theorem V1_of_ne (d : Dev nD) (b : DevRef τ sig) (ha : b ≠ a') (hb : b ≠ b') : V1 m d b = m (d, b) := by
  unfold V1; rw [Function.update_of_ne hb, Function.update_of_ne ha]; rfl

/-- The call's four arrays are among the device's buffers. -/
theorem four_sub : four ⊆ Pipeline.ucRefs τ sig := by decide

omit [FloatOps F] in
/-- The call's four arrays, held one by one. -/
theorem held_four (d : Dev nD) (W : Valuation τ sig (Elt F)) :
    (StableHlo.held (T d) four W : sProp 𝕄)
      = iprop(((d, e') ↦{fullShare} W e') ∗ ((d, g') ↦{fullShare} W g') ∗ ((d, a') ↦{fullShare} W a') ∗ (d, b') ↦{fullShare} W b') := by
  unfold StableHlo.held four
  rw [SparseCore.bigSep_insert' (by decide), SparseCore.bigSep_insert' (by decide), SparseCore.bigSep_insert' (by decide), bigSep_singleton]

/-- Before the call: its four arrays at the launch contents, the others beside them. -/
theorem split0 (d : Dev nD) :
    (StableHlo.held (T d) (Pipeline.ucRefs τ sig) (V0 m d) : sProp 𝕄)
      = iprop(arrays m d (m (aLoc d)) (m (bLoc d)) ∗ StableHlo.held (T d) (Pipeline.ucRefs τ sig \ four) (V0 m d)) := by
  rw [StableHlo.held_sub_split (T d) four_sub, held_four]; rfl

/-- After it: the results at the counts, the others untouched. -/
theorem split1 (d : Dev nD) :
    (StableHlo.held (T d) (Pipeline.ucRefs τ sig) (V1 m d) : sProp 𝕄)
      = iprop(arrays m d (outA (m (eLoc d))) (outB (m (gLoc d))) ∗ StableHlo.held (T d) (Pipeline.ucRefs τ sig \ four) (V0 m d)) := by
  rw [StableHlo.held_sub_split (T d) four_sub, held_four, V1_a, V1_b, V1_of_ne m d e' (by decide) (by decide), V1_of_ne m d g' (by decide) (by decide)]
  rw [StableHlo.held_congr (T d) (V' := V0 m d) fun b hb => V1_of_ne m d b (by rintro rfl; exact absurd hb (by decide)) (by rintro rfl; exact absurd hb (by decide))]

/-! ## The operations between the calls -/

/-- The twelve operations that lay the second call's operands out. -/
def ops : List (HloOp τ sig (Elt F)) := [
  StableHlo.reshape main_v0_0 main_v1 (rfl : (.f32 : EltTy) = .f32) shapeCasts_S262144_S512x512,
  StableHlo.reshape main_v0_1 main_v2 (rfl : (.f32 : EltTy) = .f32) shapeCasts_S4096_S64x64,
  StableHlo.reshape main_arg0 main_v3 (rfl : (.f32 : EltTy) = .f32) shapeCasts_S4x512x64x64_S4x512x4096,
  StableHlo.unary main_arg5 main_v4 (broadcastInDim S1x64 ![1] bcast_S64_S1x64_1 : (⟨S64, .f32⟩ : BufTy).Contents (Elt F) → (⟨S1x64, .f32⟩ : BufTy).Contents (Elt F)),
  StableHlo.binary main_arg6 main_arg7 main_v5 ((fun a b => concatenate S128x64 0 [⟨S64x64, a⟩, ⟨S64x64, b⟩] concatenates_S64x64_S64x64_S128x64_d0) : (⟨S64x64, .f32⟩ : BufTy).Contents (Elt F) → (⟨S64x64, .f32⟩ : BufTy).Contents (Elt F) → (⟨S128x64, .f32⟩ : BufTy).Contents (Elt F)),
  StableHlo.unary main_arg8 main_v6 (broadcastInDim S1x64 ![1] bcast_S64_S1x64_1 : (⟨S64, .f32⟩ : BufTy).Contents (Elt F) → (⟨S1x64, .f32⟩ : BufTy).Contents (Elt F)),
  StableHlo.unary main_arg9 main_v7 ((transpose S3x64x64 [2, 0, 1] · transposes_S64x64x3_S3x64x64_2_0_1) : (⟨S64x64x3, .f32⟩ : BufTy).Contents (Elt F) → (⟨S3x64x64, .f32⟩ : BufTy).Contents (Elt F)),
  StableHlo.unary main_arg10 main_v8 ((transpose S5x64x64 [2, 0, 1] · transposes_S64x64x5_S5x64x64_2_0_1) : (⟨S64x64x5, .f32⟩ : BufTy).Contents (Elt F) → (⟨S5x64x64, .f32⟩ : BufTy).Contents (Elt F)),
  StableHlo.unary main_arg11 main_v9 ((extractStridedSlice S64x64 ![0, 0] · slices_S64x192_S64x64_0_0) : (⟨S64x192, .f32⟩ : BufTy).Contents (Elt F) → (⟨S64x64, .f32⟩ : BufTy).Contents (Elt F)),
  StableHlo.unary main_arg11 main_v10 ((extractStridedSlice S64x64 ![0, 64] · slices_S64x192_S64x64_0_64) : (⟨S64x192, .f32⟩ : BufTy).Contents (Elt F) → (⟨S64x64, .f32⟩ : BufTy).Contents (Elt F)),
  StableHlo.unary main_arg11 main_v11 ((extractStridedSlice S64x64 ![0, 128] · slices_S64x192_S64x64_0_128) : (⟨S64x192, .f32⟩ : BufTy).Contents (Elt F) → (⟨S64x64, .f32⟩ : BufTy).Contents (Elt F)),
  StableHlo.unary main_arg12 main_v12 (broadcastInDim S1x64 ![1] bcast_S64_S1x64_1 : (⟨S64, .f32⟩ : BufTy).Contents (Elt F) → (⟨S1x64, .f32⟩ : BufTy).Contents (Elt F))]

/-- The device's arrays before the second call. -/
def V2 (d : Dev nD) : Valuation τ sig (Elt F) := StableHlo.after ops (V1 m d)

/-- The device's arrays at the end. -/
def V3 (d : Dev nD) : Valuation τ sig (Elt F) := Wout (V2 m) d

/-- The plain operations touch only the device's buffers. -/
theorem ops_sub : ∀ op ∈ (ops (F := F)), op.bufs ⊆ Pipeline.ucRefs τ sig := by
  intro op h
  simp only [ops, List.mem_cons, List.not_mem_nil, or_false] at h
  rcases h with h | h | h | h | h | h | h | h | h | h | h | h <;> subst h
  · exact (by decide : ({Proc.devRef .tc main_v0_0, Proc.devRef .tc main_v1} : Finset (DevRef τ sig)) ⊆ Pipeline.ucRefs τ sig)
  · exact (by decide : ({Proc.devRef .tc main_v0_1, Proc.devRef .tc main_v2} : Finset (DevRef τ sig)) ⊆ Pipeline.ucRefs τ sig)
  · exact (by decide : ({Proc.devRef .tc main_arg0, Proc.devRef .tc main_v3} : Finset (DevRef τ sig)) ⊆ Pipeline.ucRefs τ sig)
  · exact (by decide : ({Proc.devRef .tc main_arg5, Proc.devRef .tc main_v4} : Finset (DevRef τ sig)) ⊆ Pipeline.ucRefs τ sig)
  · exact (by decide : ({Proc.devRef .tc main_arg6, Proc.devRef .tc main_arg7, Proc.devRef .tc main_v5} : Finset (DevRef τ sig)) ⊆ Pipeline.ucRefs τ sig)
  · exact (by decide : ({Proc.devRef .tc main_arg8, Proc.devRef .tc main_v6} : Finset (DevRef τ sig)) ⊆ Pipeline.ucRefs τ sig)
  · exact (by decide : ({Proc.devRef .tc main_arg9, Proc.devRef .tc main_v7} : Finset (DevRef τ sig)) ⊆ Pipeline.ucRefs τ sig)
  · exact (by decide : ({Proc.devRef .tc main_arg10, Proc.devRef .tc main_v8} : Finset (DevRef τ sig)) ⊆ Pipeline.ucRefs τ sig)
  · exact (by decide : ({Proc.devRef .tc main_arg11, Proc.devRef .tc main_v9} : Finset (DevRef τ sig)) ⊆ Pipeline.ucRefs τ sig)
  · exact (by decide : ({Proc.devRef .tc main_arg11, Proc.devRef .tc main_v10} : Finset (DevRef τ sig)) ⊆ Pipeline.ucRefs τ sig)
  · exact (by decide : ({Proc.devRef .tc main_arg11, Proc.devRef .tc main_v11} : Finset (DevRef τ sig)) ⊆ Pipeline.ucRefs τ sig)
  · exact (by decide : ({Proc.devRef .tc main_arg12, Proc.devRef .tc main_v12} : Finset (DevRef τ sig)) ⊆ Pipeline.ucRefs τ sig)

/-- The plain operations make no buffer. -/
theorem ops_fresh : ∀ op ∈ (ops (F := F)), op.fresh = ∅ := by
  intro op h
  simp only [ops, List.mem_cons, List.not_mem_nil, or_false] at h
  rcases h with h | h | h | h | h | h | h | h | h | h | h | h <;> subst h <;> rfl

/-! ## @main on the TensorCore -/

/-- @main in three: the first call, the operations, the second call. -/
theorem main_eq (d : Dev nD) : main (F := F) d = ((K (F := F)).run d 0 >>= fun _ => StableHlo.seq ops >>= fun _ =>
    SparseCore.liftProg (.op (.customCall (Pipeline.entry 0) ()) fun _ => .ret ⟨⟩)) := by
  simp only [main, ops, StableHlo.seq, bind_assoc, pure_bind]; rfl

/-- What the run ends with: every array whole, at its final contents. -/
abbrev FIN (d : Dev nD) : sProp 𝕄 := StableHlo.held (T d) (Pipeline.ucRefs τ sig) (V3 m d)

/-- What the TensorCore holds after the first call, its debt apart. -/
theorem tcSt_debt (d : Dev nD) : ∃ R : sProp 𝕄, (K (F := F)).tcSt EH d 1 = iprop(debt d ∗ R) := by
  unfold SparseCore.Cfg.tcSt
  rw [(K (F := F)).Otc_end d le_rfl]
  exact ⟨_, rfl⟩

/-- The program from the arrays at the launch contents to the arrays at their final ones. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ stageGhost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (T d) (Pipeline.ucRefs τ sig) (V0 m d) from
    Pipeline.unscopedBufs_held d (V0 m d), split0, main_eq, wp_bind]
  obtain ⟨R, hR⟩ := tcSt_debt (F := F) d
  have hreg := Pipeline.RegionSeg.wp (pcfgs (F := F)) adm (pdats (V2 m)) (none : HIx 1) cells_inj EP defs₀ 𝒱₀ (K (F := F)).L (K (F := F)).lev
    (reg (V2 m)) d none (fun _ h => nomatch h) (α := PUnit) (fun _ => .ret ⟨⟩) (fun _ => iprop((K (F := F)).tcSt EH d 1 ∗ FIN m d ∗ boundary (T d) ∗ (K (F := F)).tcSems0 d))
  rw [show (reg (V2 m)).post d = iprop(FIN m d ∗ debt d) from rfl,
    show (reg (V2 m)).pre d = iprop(StableHlo.held (T d) (Pipeline.ucRefs τ sig) (V2 m d) ∗ debt d) from rfl, wp_ret] at hreg
  iintro ⟨#Hctx, Hst, ⟨Hb, ⟨Harr, Hrest⟩, Hts, -⟩, Hg⟩
  iapply ((K (F := F)).wp_run (D (F := F)) 𝒱 (EH := EH) (P := P m) κ d 0) $$ [Hst Harr Hb Hts Hrest Hg]
  isplitr; · iexact Hctx
  isplitl [Hst]; · iexact Hst
  isplitl [Harr]
  · rw [st_arrays]; iexact Harr
  iintro ⟨Hst, Hdn⟩
  ihave Hdn' := (Entails.of_eq (dn_arrays m d)) $$ Hdn
  ihave Hst' := (Entails.of_eq (show (K (F := F)).tcSt EH d ((0 : Fin 1).val + 1) = _ from hR)) $$ Hst
  icases Hst' with ⟨Hd, HR⟩
  ihave HV := (Entails.of_eq (split1 m d).symm) $$ [Hdn' Hrest]
  · isplitl [Hdn'] <;> iassumption
  iapply (StableHlo.wp_seq 𝒱 none Set.univ d (Pipeline.ucRefs τ sig) _ ops ops_sub ops_fresh (V1 m d)) $$ [Hb HV]
  · isplitl [Hb] <;> iassumption
  iintro ⟨Hb, HV⟩
  iapply ((K (F := F)).wp_liftProg (D (F := F)) 𝒱 (T d) Set.univ none _ _)
  iapply hreg
  isplitl [HR Hts]
  · iintro ⟨Hb, HF, Hd⟩
    imodintro
    isplitl [Hd HR]
    · rw [hR]; isplitl [Hd] <;> iassumption
    isplitl [HF]; · iexact HF
    isplitl [Hb] <;> iassumption
  isplitl [Hb]; · iexact Hb
  isplitl [HV Hd]
  · isplitl [HV]; · iexact HV
    iexact Hd
  isplitr [Hg]
  · iapply (SparseCore.Cfg.ctx_levAts κ); iexact Hctx
  · unfold stageGhost; iexact Hg

/-- What a final memory shows: every array at its final contents. -/
def fq (d : Dev nD) (s' : Phys nD τ sig (Elt F)) : Prop := ∀ b ∈ Pipeline.ucRefs τ sig, s'.mem.mem (d, b) = V3 m d b

/-- What a device holds at the end fixes its final memory. -/
theorem hfin (d : Dev nD) (s' : Phys nD τ sig (Elt F)) : iprop(FIN m d ∗ SI s') ⊢ (⌜fq m d s'⌝ : sProp 𝕄) := by
  unfold FIN StableHlo.held
  iintro ⟨HF, HSI⟩
  iapply (SI_pointsTo_bufs_agree (st := s') (c := d) (qs := fun _ => fullShare) (F := V3 m d) (Pipeline.ucRefs τ sig))
  isplitl [HSI]; · iexact HSI
  iexact HF

/-! ## The program's run -/

/-- Every array ends at its final contents, and every semaphore at zero. -/
def QC : PUnit × MemSt nD τ sig (Elt F) → Prop := fun r =>
  (∀ c : Dev nD, ∀ b ∈ Pipeline.ucRefs τ sig, r.2.mem (c, b) = V3 m c b) ∧ r.2.sem = fun _ => 0

/-- The whole program runs, from any memory whose edge lists name nodes. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => stageGhost d) (FIN m) (u₀ (F := F)) (sep_elim_left.trans (hu₀ m)) (hmain m ρ) (fq m) (hfin m) (QC m) (fun _ h hz => ⟨h, hz⟩)

end Cert.Proof.Adj

end
-- ==== Proof.Pre.lean ====
/-
  What the stated precondition says of the edge lists: every word, non-negative and below the bound as a signed word, is
  its own value, below the bound.
-/
module

public import proofs.«01_k».proof.Defs
public import proofs.«01_k».proof.Proof.Gen.Pre_in_range
public import Idealize.ShloMosaic.Lib.ReduceAll

@[expose] public section

noncomputable section

namespace Cert.Proof.Adj

open Idealize.ShloMosaic

variable {F : FTy → Type} [FloatOps F]

/-- A word at least zero and below `n`, as a signed word, is below `n` as a natural number. -/
theorem lt_of_tests {n : Nat} (hn : n < 2 ^ 31) (v : BitVec 32)
    (h0 : IntOp.cmpi .sge v 0#32 = 1#1) (h1 : IntOp.cmpi .slt v (BitVec.ofNat 32 n) = 1#1) : v.toNat < n := by
  have one (p : Bool) : (BitVec.ofBool p = 1#1) ↔ p = true := by cases p <;> decide
  simp only [IntOp.cmpi, one, BitVec.sle_eq_decide, BitVec.slt_eq_decide, decide_eq_true_eq,
    BitVec.toInt_eq_toNat_cond, BitVec.toNat_ofNat] at h0 h1
  have := v.isLt
  omega

/-- The precondition's two tests: the words of the first edge list are below 512, those of the second below 64. -/
theorem ranges_of_fn [Cert.Pre_in_range.Facts] (x0 x3 x4 x5 x6 x7 x8 x9 x10 x11 x12) (e : IVec Cert.Pre_in_range.S2x4096 32) (g : IVec Cert.Pre_in_range.S2x512 32)
    (h : Cert.Pre_in_range.fn (F := F) x0 e g x3 x4 x5 x6 x7 x8 x9 x10 x11 x12 = fun _ => 1#1) :
    (∀ j, (e j).toNat < 512) ∧ ∀ j, (g j).toNat < 64 := by
  have h' := congrFun h (Shape.Idx.first Cert.Pre_in_range.Facts.h_S_)
  simp only [Cert.Pre_in_range.fn, andi] at h'
  obtain ⟨ha, hb⟩ := IntOp.andi_eq_one.1 h'
  have : Subsingleton Cert.Pre_in_range.S_.Idx := ⟨fun a b => funext fun k => k.elim0⟩
  constructor
  · intro j
    obtain ⟨h0, h1⟩ := IntOp.andi_eq_one.1 (Host.reduce_andi_all _ _ _ _ _ ha j)
    exact lt_of_tests (n := 512) (by decide) _ h0 h1
  · intro j
    obtain ⟨h0, h1⟩ := IntOp.andi_eq_one.1 (Host.reduce_andi_all _ _ _ _ _ hb j)
    exact lt_of_tests (n := 64) (by decide) _ h0 h1

end Cert.Proof.Adj

end
-- ==== Proof.Finite.lean ====
/-
  What the precondition of the value claim says: the edge lists are in range and the float arguments but three are real numbers.
-/
module

public import proofs.«01_k».proof.Proof.Pre
public import proofs.«01_k».proof.Proof.Gen.Pre_finite

@[expose] public section

noncomputable section

namespace Cert.Proof.Adj

open Idealize.ShloMosaic

/-- The largest pattern of exponents is infinity. -/
theorem top_word : Ideal.ofBits .f32 0x7F800000#32 = ⊤ := by simp [Ideal.ofBits, Ideal.ieee]

/-- An extended real whose absolute value is below infinity is a real number. -/
theorem real_of_test (x : EReal) (h : FloatOps.cmpf (F := Ideal) .olt (FloatOps.hostAbsf (F := Ideal) (φ := .f32) x) (FloatOps.ofBits (F := Ideal) .f32 0x7F800000#32) = 1#1) : ∃ r : ℝ, x = r := by
  have h' : max x (-x) < ⊤ := by
    change BitVec.ofBool (decide (max x (-x) < Ideal.ofBits .f32 0x7F800000#32)) = 1#1 at h
    rw [top_word] at h
    by_contra hn
    rw [decide_eq_false hn] at h
    exact absurd h (by decide)
  induction x using EReal.rec with
  | bot => simp at h'
  | top => simp at h'
  | coe r => exact ⟨r, rfl⟩

variable [Cert.Pre_finite.Facts]

/-- A reduced test that holds makes the whole array real. -/
theorem reals_of_all {s : Shape} (x : FVec Ideal s .f32) (axes : List (Fin s.rank)) (hb) (hr : s.ReducesTo axes Cert.Pre_finite.S_) (hS) (v : IVec Cert.Pre_finite.S_ 1)
    (h : Host.reduce IntOp.andi (cmpf .olt (Host.absf x) (broadcastInDim s ![] hb (constant (F := Ideal) Cert.Pre_finite.S_ .f32 0x7F800000#32))) v hr hS
      (Shape.Idx.first Cert.Pre_finite.Facts.h_S_) = 1#1) : ∃ y : s.Idx → ℝ, ∀ i, x i = ((y i : ℝ) : EReal) := by
  have : Subsingleton Cert.Pre_finite.S_.Idx := ⟨fun a b => funext fun k => k.elim0⟩
  have each : ∀ i, ∃ r : ℝ, x i = ((r : ℝ) : EReal) := fun i => real_of_test (x i) (Host.reduce_andi_all _ _ _ _ _ h i)
  choose y hy using each
  exact ⟨y, hy⟩

/-- The precondition's tests: the ranges of the edge lists, and a real number at every index of the float arguments it tests. -/
theorem reals_of_fn (x0 x3 x4 x5 x6 x7 x8 x9 x10 x11 x12) (e : IVec Cert.Pre_finite.S2x4096 32) (g : IVec Cert.Pre_finite.S2x512 32)
    (h : Cert.Pre_finite.fn (F := Ideal) x0 e g x3 x4 x5 x6 x7 x8 x9 x10 x11 x12 = fun _ => 1#1) :
    ((∀ j, (e j).toNat < 512) ∧ ∀ j, (g j).toNat < 64)
    ∧ (∃ y : Cert.Pre_finite.S4x512x64x64.Idx → ℝ, ∀ i, x0 i = ((y i : ℝ) : EReal))
    ∧ (∃ y : Cert.Pre_finite.S64x64.Idx → ℝ, ∀ i, x3 i = ((y i : ℝ) : EReal))
    ∧ (∃ y : Cert.Pre_finite.S64x64.Idx → ℝ, ∀ i, x4 i = ((y i : ℝ) : EReal))
    ∧ (∃ y : Cert.Pre_finite.S64x64.Idx → ℝ, ∀ i, x6 i = ((y i : ℝ) : EReal))
    ∧ (∃ y : Cert.Pre_finite.S64.Idx → ℝ, ∀ i, x8 i = ((y i : ℝ) : EReal))
    ∧ (∃ y : Cert.Pre_finite.S64x64x3.Idx → ℝ, ∀ i, x9 i = ((y i : ℝ) : EReal))
    ∧ (∃ y : Cert.Pre_finite.S64x64x5.Idx → ℝ, ∀ i, x10 i = ((y i : ℝ) : EReal))
    ∧ (∃ y : Cert.Pre_finite.S64x192.Idx → ℝ, ∀ i, x11 i = ((y i : ℝ) : EReal)) := by
  have h' := congrFun h (Shape.Idx.first Cert.Pre_finite.Facts.h_S_)
  simp only [Cert.Pre_finite.fn, Cert.Pre_finite.fn_part1, Cert.Pre_finite.fn_part2, Cert.Pre_finite.fn_part3, andi] at h'
  obtain ⟨h', h11⟩ := IntOp.andi_eq_one.1 h'
  obtain ⟨h', h10⟩ := IntOp.andi_eq_one.1 h'
  obtain ⟨h', h9⟩ := IntOp.andi_eq_one.1 h'
  obtain ⟨h', h8⟩ := IntOp.andi_eq_one.1 h'
  obtain ⟨h', h6⟩ := IntOp.andi_eq_one.1 h'
  obtain ⟨h', h4⟩ := IntOp.andi_eq_one.1 h'
  obtain ⟨h', h3⟩ := IntOp.andi_eq_one.1 h'
  obtain ⟨h', h0⟩ := IntOp.andi_eq_one.1 h'
  obtain ⟨ha, hb⟩ := IntOp.andi_eq_one.1 h'
  have : Subsingleton Cert.Pre_finite.S_.Idx := ⟨fun a b => funext fun k => k.elim0⟩
  refine ⟨⟨fun j => ?_, fun j => ?_⟩, reals_of_all _ _ _ _ _ _ h0, reals_of_all _ _ _ _ _ _ h3, reals_of_all _ _ _ _ _ _ h4, reals_of_all _ _ _ _ _ _ h6,
    reals_of_all _ _ _ _ _ _ h8, reals_of_all _ _ _ _ _ _ h9, reals_of_all _ _ _ _ _ _ h10, reals_of_all _ _ _ _ _ _ h11⟩
  · obtain ⟨l, u⟩ := IntOp.andi_eq_one.1 (Host.reduce_andi_all _ _ _ _ _ ha j)
    exact lt_of_tests (n := 512) (by decide) _ l u
  · obtain ⟨l, u⟩ := IntOp.andi_eq_one.1 (Host.reduce_andi_all _ _ _ _ _ hb j)
    exact lt_of_tests (n := 64) (by decide) _ l u

end Cert.Proof.Adj

end
-- ==== Proof.Reals.lean ====
/-
  The algebra between the two programs, over the reals: the kernel multiplies the weights together first and averages
  with counted matrices, the reference averages edge by edge and applies the weights layer by layer.
-/
module

public import Mathlib.Data.Real.Basic
public import Mathlib.Algebra.BigOperators.Ring.Finset
public import Mathlib.Algebra.BigOperators.Field
public import Mathlib.Algebra.BigOperators.Group.Finset.Sigma
public import Mathlib.Tactic.Ring
public import Mathlib.Tactic.Linarith

@[expose] public section

noncomputable section

namespace Cert.Proof.Adj

/-- How many of `N` edges run from `c` to `r`. -/
def cnt {N : ℕ} (src dst : Fin N → ℕ) (r c : ℕ) : ℝ := ∑ k, if dst k = r ∧ src k = c then 1 else 0

/-- A row of counts times a vector adds the vector's elements edge by edge. -/
theorem cnt_mul {N B : ℕ} (src dst : Fin N → ℕ) (hs : ∀ k, src k < B) (r : ℕ) (y : Fin B → ℝ) :
    ∑ m, cnt src dst r m.val * y m = ∑ k, if dst k = r then y ⟨src k, hs k⟩ else 0 := by
  unfold cnt
  simp only [Finset.sum_mul]
  rw [Finset.sum_comm]
  refine Finset.sum_congr rfl fun k _ => ?_
  by_cases hd : dst k = r
  · rw [if_pos hd, Finset.sum_eq_single ⟨src k, hs k⟩]
    · simp [hd]
    · intro m _ hm
      rw [if_neg (fun h => hm (Fin.ext h.2.symm)), zero_mul]
    · intro h; exact absurd (Finset.mem_univ _) h
  · rw [if_neg hd]
    exact Finset.sum_eq_zero fun m _ => by rw [if_neg (fun h => hd h.1), zero_mul]

/-- A row of counts adds up to the edges into it. -/
theorem cnt_sum {N B : ℕ} (src dst : Fin N → ℕ) (hs : ∀ k, src k < B) (r : ℕ) :
    ∑ m : Fin B, cnt src dst r m.val = ∑ k, if dst k = r then (1 : ℝ) else 0 := by
  have := cnt_mul src dst hs r (fun _ => 1)
  simpa using this

/-- Two weights in a row are one. -/
theorem two_weights {ι κ : Type} [Fintype ι] [Fintype κ] (a : κ → ℝ) (W : ι → κ → ℝ) (G : ι → ℝ) :
    ∑ p, (∑ f, a f * W p f) * G p = ∑ f, a f * ∑ p, G p * W p f := by
  simp only [Finset.sum_mul, Finset.mul_sum]
  rw [Finset.sum_comm]
  exact Finset.sum_congr rfl fun f _ => Finset.sum_congr rfl fun p _ => by ring

/-- Averaging features after the sequence weight, or before it. -/
theorem feature_swap (B : Fin 64 → Fin 64 → ℝ) (d : Fin 64 → ℝ) (X : Fin 64 → Fin 64 → ℝ) (w : Fin 64 → ℝ) (G : Fin 64 → ℝ) :
    ∑ v, (∑ t, (∑ u, B v u * X t u) / d v * w t) * G v = ∑ u, (∑ t, w t * X t u) * ∑ v, G v * (B v u / d v) := by
  have l : ∀ v, (∑ t, (∑ u, B v u * X t u) / d v * w t) * G v = ∑ u, ∑ t, w t * X t u * (G v * (B v u / d v)) := fun v => by
    rw [Finset.sum_comm, Finset.sum_mul]
    refine Finset.sum_congr rfl fun t _ => ?_
    rw [Finset.sum_div, Finset.sum_mul, Finset.sum_mul]
    exact Finset.sum_congr rfl fun u _ => by ring
  simp only [l]
  rw [Finset.sum_comm]
  refine Finset.sum_congr rfl fun u _ => ?_
  simp only [Finset.sum_mul, Finset.mul_sum]

/-- The kernel's sums and the reference's agree. `a` is the mean message; `P0 … P4` the padded sequence at five places;
    `G1`, `G2`, `G3` the last weight's three parts. -/
theorem sums_agree (a P0 P1 P2 P3 P4 : Fin 64 → ℝ) (Wl Wr c10 c11 c12 c20 c21 c22 c23 c24 : Fin 64 → Fin 64 → ℝ) (G1 G2 G3 : Fin 64 → ℝ)
    (B : Fin 64 → Fin 64 → ℝ) (d : Fin 64 → ℝ) (X : Fin 64 → Fin 64 → ℝ) (wl : Fin 64 → ℝ) (bf x : ℝ) :
    x + (((((((∑ u, a u * ∑ p, G1 p * Wl p u)
        + ∑ u, P2 u * (∑ p, G1 p * Wr p u + (∑ p, G3 p * c22 p u + ∑ p, G3 p * c11 p u)))
        + ∑ u, P0 u * ∑ p, G3 p * c20 p u)
        + ∑ u, P1 u * (∑ p, G3 p * c21 p u + ∑ p, G3 p * c10 p u))
        + ∑ u, P3 u * (∑ p, G3 p * c23 p u + ∑ p, G3 p * c12 p u))
        + ∑ u, P4 u * ∑ p, G3 p * c24 p u)
        + ∑ u, (∑ t, wl t * X t u) * ∑ v, G2 v * (B v u / d v))
      + bf * ∑ v, G2 v
    = x + (∑ p, (∑ f, a f * Wl p f + ∑ f, P2 f * Wr p f) * G1 p
        + ∑ v, (∑ t, (∑ u, B v u * X t u) / d v * wl t + bf) * G2 v
        + ∑ p, (∑ f, P1 f * c10 p f + ∑ f, P2 f * c11 p f + ∑ f, P3 f * c12 p f
            + (∑ f, P0 f * c20 p f + ∑ f, P1 f * c21 p f + ∑ f, P2 f * c22 p f + ∑ f, P3 f * c23 p f + ∑ f, P4 f * c24 p f)) * G3 p) := by
  simp only [add_mul, mul_add, Finset.sum_add_distrib, two_weights, feature_swap, ← Finset.mul_sum]
  ring

end Cert.Proof.Adj

end
-- ==== Proof.Routes.lean ====
/-
  Rows taken and rows added to, by an edge's two words: the reference's gather and its two scatters, read at an index.
-/
module

public import Idealize.ShloMosaic.Lib.Pointwise

@[expose] public section

noncomputable section

namespace Cert.Proof.Adj

open Idealize.ShloMosaic

/-- An update lands at `i` exactly when start plus window is `i` on every axis. -/
theorem lands_iff {s si u : Shape} (d : ScatterDims s si u) {w : Nat} (j : u.Idx) (idx : IVec si w) (i : s.Idx) :
    d.resultIdx? j idx = some i ↔ ∀ a, d.start j idx a + d.window j a = (i a).val := by
  unfold ScatterDims.resultIdx?
  constructor
  · intro h a
    split at h
    · next hp =>
      have := congrArg Fin.val (congrFun (Option.some.inj h) a)
      have hq := hp a
      simp only at this
      omega
    · cases h
  · intro h
    have hp : ∀ a, 0 ≤ d.start j idx a + d.window j a ∧ d.start j idx a + d.window j a < s.size a := fun a => by
      have := h a; have := (i a).isLt; omega
    rw [dif_pos hp]
    refine congrArg some (funext fun a => Fin.ext ?_)
    have := h a
    show (d.start j idx a + d.window j a).toNat = _
    omega

/-- Rows of the middle axis added to at the place each word names. -/
abbrev rowsAdd (A N C E : Nat) (wf : ScatterDims.WF ⟨3, ![A, N, C]⟩ ⟨2, ![E, 1]⟩ ⟨3, ![A, E, C]⟩ [0, 2] [1] [1] 1) :
    ScatterDims ⟨3, ![A, N, C]⟩ ⟨2, ![E, 1]⟩ ⟨3, ![A, E, C]⟩ where
  updateWindowDims := [0, 2]
  insertedWindowDims := [1]
  scatterDimsToOperandDims := [1]
  indexVectorDim := 1
  wf := wf

/-- Elements of a list added to at the place each word names. -/
abbrev itemsAdd (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Rows of the middle axis taken from the place each word names. -/
abbrev rowsTake (A N C E : Nat) (wf : GatherDims.WF ⟨3, ![A, N, C]⟩ ⟨2, ![E, 1]⟩ ⟨3, ![A, E, C]⟩ [0, 2] [1] [] [1] [] 1 ![A, 1, C]) :
    GatherDims ⟨3, ![A, N, C]⟩ ⟨2, ![E, 1]⟩ ⟨3, ![A, E, C]⟩ where
  offsetDims := [0, 2]
  collapsedSliceDims := [1]
  operandBatchingDims := []
  startIndicesBatchingDims := []
  startIndexMap := [1]
  indexVectorDim := 1
  sliceSizes := ![A, 1, C]
  wf := wf

/-- Where an update of a row scatter lands. -/
theorem rowsAdd_lands {A N C E : Nat} (wf) (idx : IVec ⟨2, ![E, 1]⟩ 32) (a a' : Fin A) (e : Fin E) (n : Fin N) (c c' : Fin C) :
    (rowsAdd A N C E wf).resultIdx? (ix3 a e c) idx = some (ix3 a' n c') ↔ a = a' ∧ (idx (ix2 e 0)).toInt = n.val ∧ c = c' := by
  rw [lands_iff]
  have s0 : (rowsAdd A N C E wf).start (ix3 a e c) idx 0 = 0 := rfl
  have s2 : (rowsAdd A N C E wf).start (ix3 a e c) idx 2 = 0 := rfl
  have s1 : (rowsAdd A N C E wf).start (ix3 a e c) idx 1 = (idx (ix2 e 0)).toInt := by
    unfold ScatterDims.start
    rw [dif_pos (List.mem_singleton.mpr rfl)]
    refine congrArg (fun t => (idx t).toInt) (funext fun b => Fin.ext ?_)
    match b with
    | ⟨0, _⟩ => rfl
    | ⟨1, _⟩ => rfl
  have w0 : (rowsAdd A N C E wf).window (ix3 a e c) 0 = a.val := rfl
  have w1 : (rowsAdd A N C E wf).window (ix3 a e c) 1 = 0 := rfl
  have w2 : (rowsAdd A N C E wf).window (ix3 a e c) 2 = c.val := rfl
  have i0 : ((ix3 a' n c' : (⟨3, ![A, N, C]⟩ : Shape).Idx) 0).val = a'.val := rfl
  have i1 : ((ix3 a' n c' : (⟨3, ![A, N, C]⟩ : Shape).Idx) 1).val = n.val := rfl
  have i2 : ((ix3 a' n c' : (⟨3, ![A, N, C]⟩ : Shape).Idx) 2).val = c'.val := rfl
  simp only [Fin.ext_iff]
  constructor
  · intro h
    have h0 := h 0
    have h1 := h 1
    have h2 := h 2
    rw [s0, w0, i0] at h0
    rw [s1, w1, i1] at h1
    rw [s2, w2, i2] at h2
    omega
  · rintro ⟨h0, h1, h2⟩ b
    match b with
    | ⟨0, _⟩ => refine (congrArg₂ (fun (p : Int) (q : Nat) => p + (q : Int)) s0 w0).trans (Eq.trans ?_ (congrArg Int.ofNat i0).symm); show (0 : Int) + a.val = a'.val; omega
    | ⟨1, _⟩ => refine (congrArg₂ (fun (p : Int) (q : Nat) => p + (q : Int)) s1 w1).trans (Eq.trans ?_ (congrArg Int.ofNat i1).symm); show _ + ((0 : Nat) : Int) = n.val; omega
    | ⟨2, _⟩ => refine (congrArg₂ (fun (p : Int) (q : Nat) => p + (q : Int)) s2 w2).trans (Eq.trans ?_ (congrArg Int.ofNat i2).symm); show (0 : Int) + c.val = c'.val; omega

/-- Where an update of an element scatter lands. -/
theorem itemsAdd_lands {N E : Nat} (wf) (idx : IVec ⟨2, ![E, 1]⟩ 32) (e : Fin E) (n : Fin N) :
    (itemsAdd N E wf).resultIdx? (ix1 e) idx = some (ix1 n) ↔ (idx (ix2 e 0)).toInt = n.val := by
  rw [lands_iff]
  have s0 : (itemsAdd N E wf).start (ix1 e) idx 0 = (idx (ix2 e 0)).toInt := by
    unfold ScatterDims.start
    rw [dif_pos (List.mem_singleton.mpr rfl)]
    refine congrArg (fun t => (idx t).toInt) (funext fun b => Fin.ext ?_)
    match b with
    | ⟨0, _⟩ => rfl
    | ⟨1, _⟩ => rfl
  have w0 : (itemsAdd N E wf).window (ix1 e) 0 = 0 := rfl
  constructor
  · intro h
    have := h 0
    rw [s0, w0] at this
    have hn : ((ix1 n : (⟨1, ![N]⟩ : Shape).Idx) 0).val = n.val := rfl
    rw [hn] at this
    omega
  · intro h a
    obtain rfl : a = 0 := Subsingleton.elim _ _
    rw [s0, w0, h]
    show (n.val : Int) + ((0 : Nat) : Int) = n.val
    omega

/-- Rows added to: at row `n` the updates whose word is `n`. -/
theorem rowsAdd_apply {A N C E : Nat} (wf) (x : (⟨3, ![A, N, C]⟩ : Shape).Idx → EReal) (idx : IVec ⟨2, ![E, 1]⟩ 32)
    (upd : (⟨3, ![A, E, C]⟩ : Shape).Idx → EReal) (a : Fin A) (n : Fin N) (c : Fin C) :
    Ideal.hostScatterAdd (rowsAdd A N C E wf) x idx upd (ix3 a n c)
      = x (ix3 a n c) + ∑ e : Fin E, if (idx (ix2 e 0)).toInt = n.val then upd (ix3 a e c) else 0 := by
  unfold Ideal.hostScatterAdd
  congr 1
  rw [Finset.sum_filter, sum_idx3]
  simp only [rowsAdd_lands]
  rw [Finset.sum_eq_single a, ]
  · refine Finset.sum_congr rfl fun e _ => ?_
    rw [Finset.sum_eq_single c]
    · simp
    · intro b _ hb; rw [if_neg]; tauto
    · simp
  · intro b _ hb
    refine Finset.sum_eq_zero fun e _ => Finset.sum_eq_zero fun k _ => ?_
    rw [if_neg]; tauto
  · simp

/-- Items added to: at `n` the updates whose word is `n`. -/
theorem itemsAdd_apply {N E : Nat} (wf) (x : (⟨1, ![N]⟩ : Shape).Idx → EReal) (idx : IVec ⟨2, ![E, 1]⟩ 32)
    (upd : (⟨1, ![E]⟩ : Shape).Idx → EReal) (n : Fin N) :
    Ideal.hostScatterAdd (itemsAdd N E wf) x idx upd (ix1 n)
      = x (ix1 n) + ∑ e : Fin E, if (idx (ix2 e 0)).toInt = n.val then upd (ix1 e) else 0 := by
  unfold Ideal.hostScatterAdd
  congr 1
  rw [Finset.sum_filter, sum_idx1]
  simp only [itemsAdd_lands]

/-- Rows taken: row `e` is the row the word names, when it names one. -/
theorem rowsTake_apply {A N C E : Nat} {α : Type} (wf) (x : (⟨3, ![A, N, C]⟩ : Shape).Idx → α) (idx : IVec ⟨2, ![E, 1]⟩ 32)
    (a : Fin A) (e : Fin E) (c : Fin C) (n : Fin N) (h : (idx (ix2 e 0)).toInt = n.val) :
    Host.gather (rowsTake A N C E wf) x idx (ix3 a e c) = x (ix3 a n c) := by
  unfold Host.gather
  refine congrArg x (funext fun b => Fin.ext ?_)
  show (rowsTake A N C E wf).start (ix3 a e c) idx b + (rowsTake A N C E wf).batchCoord (ix3 a e c) b + (rowsTake A N C E wf).offCoord (ix3 a e c) b = _
  match b with
  | ⟨0, _⟩ => show 0 + 0 + a.val = a.val; omega
  | ⟨1, _⟩ =>
    have s1 : (rowsTake A N C E wf).start (ix3 a e c) idx (1 : Fin 3) = min (idx (ix2 e 0)).toInt.toNat (N - 1) := by
      unfold GatherDims.start
      rw [dif_pos (List.mem_singleton.mpr rfl)]
      refine congrArg (fun t => min (idx t).toInt.toNat (N - 1)) (funext fun b => Fin.ext ?_)
      match b with
      | ⟨0, _⟩ => rfl
      | ⟨1, _⟩ => rfl
    have := n.isLt
    show (rowsTake A N C E wf).start (ix3 a e c) idx (1 : Fin 3) + 0 + 0 = n.val
    rw [s1, h]
    show min (Int.toNat (n.val : Int)) (N - 1) + 0 + 0 = n.val
    omega
  | ⟨2, _⟩ => show 0 + 0 + c.val = c.val; omega

end Cert.Proof.Adj

end
-- ==== Proof.Count.lean ====
/-
  Over the extended reals the two accumulators count edges: each result's element is the number of edges from its column to its row.
-/
module

public import proofs.«01_k».proof.Proof.Lanes
public import Idealize.ShloMosaic.Lib.IdealHost
public import Idealize.ShloMosaic.PureOps.Ideal.Laws

@[expose] public section

noncomputable section

namespace Cert.Proof.Adj

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf)

/-! ## A masked scatter-add over the extended reals -/

/-- A masked scatter-add, read at one element: the old element and what the set lanes that name it carry. -/
theorem storeIdx_add_at {s : Shape} {n : Fin 1 → Nat} (g : Vec Ideal s .f32) (idxs : Fin s.rank → IVec ⟨1, n⟩ 32) (v : Vec Ideal ⟨1, n⟩ .f32)
    (mask : IVec ⟨1, n⟩ 1) (h : ∀ a x, (idxs a x).toNat < s.size a) (p : s.Idx) :
    (storeIdx g idxs v mask true h p : EReal)
      = g p + ∑ k : Fin (n 0), if mask (Shape.ofLane k) = 1#1 ∧ ∀ a, (p a).val = (idxs a (Shape.ofLane k)).toNat then (v (Shape.ofLane k) : EReal) else 0 := by
  rw [Fin.sum_univ_def]
  unfold storeIdx
  generalize List.finRange (n 0) = l
  induction l generalizing g with
  | nil => simp
  | cons k l ih =>
    rw [List.foldl_cons, ih, List.map_cons, List.sum_cons, ← add_assoc]
    congr 1
    by_cases hm : mask (Shape.ofLane k) = 1#1
    · simp only [hm, if_true, true_and]
      rw [if_pos (show (1#1 : BitVec 1) = 1 from rfl)]
      by_cases hp : ∀ a, (p a).val = (idxs a (Shape.ofLane k)).toNat
      · have hpe : p = idxAt idxs h (Shape.ofLane k) := funext fun a => Fin.ext (hp a)
        have hc : ∀ a, (p a).val = (idxAt idxs h (Shape.ofLane k) a).val := hp
        rw [if_pos hp, if_pos hc, ← hpe]
        rfl
      · have hc : ¬ ∀ a, (p a).val = (idxAt idxs h (Shape.ofLane k) a).val := hp
        rw [if_neg hp, if_neg hc, add_zero]
    · have hm' : ¬ mask (Shape.ofLane k) = 1 := hm
      simp only [hm, hm', if_false, false_and, add_zero]

/-! ## Edges counted -/

/-- Word `n` of row `r` of an edge list, as a number. -/
def word {N : Nat} (e : (⟨2, ![2, N]⟩ : Shape).Idx → BitVec 32) (r : Fin 2) (n : Nat) : Nat :=
  if h : n < N then (e (fun | 0 => r | 1 => ⟨n, h⟩)).toNat else 0

/-- One for an edge from `c` to `r`, zero for any other. -/
def hit {N : Nat} (e : (⟨2, ![2, N]⟩ : Shape).Idx → BitVec 32) (r c n : Nat) : EReal :=
  if word e 1 n = r ∧ word e 0 n = c then 1 else 0

/-- The number of edges from `c` to `r` among the first `n`. -/
def count {N : Nat} (e : (⟨2, ![2, N]⟩ : Shape).Idx → BitVec 32) (r c n : Nat) : EReal :=
  ∑ k ∈ Finset.range n, hit e r c k

/-- A word of an edge list in range is below the bound. -/
theorem word_lt {N B : Nat} (hB : 0 < B) (e : (⟨2, ![2, N]⟩ : Shape).Idx → BitVec 32) (he : ∀ j, (e j).toNat < B) (r : Fin 2) (n : Nat) : word e r n < B := by
  unfold word; split
  · exact he _
  · exact hB

/-- The words of a group are the list's. -/
theorem grp_word {N : Nat} (e : (⟨2, ![2, N]⟩ : Shape).Idx → Elt Ideal .i32) (r : Fin 2) (k : Nat) (h : 16 * k + 16 ≤ N) (l : Fin ((![16] : Fin 1 → Nat) 0)) :
    (grp (F := Ideal) e r k h (at16 (Shape.ofLane (d := ![16]) l))).toNat = word e r (16 * k + l.val) := by
  have hl : l.val < 16 := l.isLt
  unfold word
  rw [dif_pos (by omega)]
  unfold grp
  refine congrArg (fun j => BitVec.toNat (e j)) (funext fun a => ?_)
  match a with
  | 0 => rfl
  | 1 => rfl

/-- Every word of a group of sixteen is below the bound. -/
theorem grp_lt {N B : Nat} (e : (⟨2, ![2, N]⟩ : Shape).Idx → Elt Ideal .i32) (he : ∀ j, BitVec.toNat (e j) < B) (r : Fin 2) (k : Nat) (h : 16 * k + 16 ≤ N) (x : S1x16.Idx) :
    BitVec.toNat (grp (F := Ideal) e r k h x) < B := he _

/-- Sixteen more edges counted. -/
theorem count_group {N : Nat} (e : (⟨2, ![2, N]⟩ : Shape).Idx → BitVec 32) (r c k : Nat) :
    count e r c (16 * (k + 1)) = count e r c (16 * k) + ∑ l : Fin 16, hit e r c (16 * k + l.val) := by
  unfold count
  rw [show 16 * (k + 1) = 16 * k + 16 by ring, Finset.sum_range_add, Finset.sum_range (n := 16)]

/-- The first accumulator after `k` groups: at row `p / 512` of the task's sixteen and column `p % 512`, the edges counted so far. -/
theorem accA_count (i : grid0.Coords) (e : S2x4096.Idx → Elt Ideal .i32) (he : ∀ j, BitVec.toNat (e j) < 512) (p : S8192.Idx) :
    ∀ k ≤ 256, (accA i e k p : EReal) = count e (widN i * 16 + (p 0).val / 512) ((p 0).val % 512) (16 * k)
  | 0, _ => by
    show Ideal.ofBits .f32 0x00000000#32 = _
    simp [count]
  | k + 1, hk => by
    have hp : (p 0).val < 8192 := (p 0).isLt
    have ih := accA_count i e he p k (by omega)
    have hk' : 16 * k + 16 ≤ 4096 := by omega
    have hc := chkA i (grp e 0 k hk') (grp e 1 k hk') (grp_lt e he 0 k hk') (grp_lt e he 1 k hk')
    rw [count_group, ← ih]
    show (stepA i e k (accA i e k) p : EReal) = _
    unfold stepA
    rw [dif_pos hk', dif_pos hc]
    refine (storeIdx_add_at _ _ _ _ _ p).trans (congrArg (accA i e k p + ·) (Finset.sum_congr rfl fun l _ => ?_))
    have h0 := grp_lt e he 0 k hk' (at16 (Shape.ofLane (d := ![16]) l))
    have h1 := grp_lt e he 1 k hk' (at16 (Shape.ofLane (d := ![16]) l))
    have hm := maskA i (grp e 1 k hk') (Shape.ofLane (d := ![16]) l) h1
    have hq := placeA i (grp e 0 k hk') (grp e 1 k hk') (Shape.ofLane (d := ![16]) l) h0 h1
    rw [grp_word] at hm hq h0 h1
    rw [grp_word] at hq
    unfold hit
    have hw := widN_lt i
    refine if_congr ?_ Ideal.ofBits_one_f32 rfl
    rw [hm]
    constructor
    · rintro ⟨hr, ha⟩
      have ha := ha 0
      rw [if_pos hr] at hq
      have ha : (p 0).val = (word e 1 (16 * k + l.val) - widN i * 16) * 512 + word e 0 (16 * k + l.val) := ha.trans hq
      omega
    · rintro ⟨hd, hs⟩
      have hr : widN i * 16 ≤ word e 1 (16 * k + l.val) ∧ word e 1 (16 * k + l.val) < widN i * 16 + 16 := by omega
      refine ⟨hr, fun a => ?_⟩
      rw [if_pos hr] at hq
      rw [Fin.eq_zero a]
      refine Eq.trans ?_ hq.symm
      omega

/-- The second accumulator the same: two rows of sixty-four columns. -/
theorem accB_count (i : grid0.Coords) (e : S2x512.Idx → Elt Ideal .i32) (he : ∀ j, BitVec.toNat (e j) < 64) (p : S128.Idx) :
    ∀ k ≤ 32, (accB i e k p : EReal) = count e (widN i * 2 + (p 0).val / 64) ((p 0).val % 64) (16 * k)
  | 0, _ => by
    show Ideal.ofBits .f32 0x00000000#32 = _
    simp [count]
  | k + 1, hk => by
    have hp : (p 0).val < 128 := (p 0).isLt
    have ih := accB_count i e he p k (by omega)
    have hk' : 16 * k + 16 ≤ 512 := by omega
    have hc := chkB i (grp e 0 k hk') (grp e 1 k hk') (grp_lt e he 0 k hk') (grp_lt e he 1 k hk')
    rw [count_group, ← ih]
    show (stepB i e k (accB i e k) p : EReal) = _
    unfold stepB
    rw [dif_pos hk', dif_pos hc]
    refine (storeIdx_add_at _ _ _ _ _ p).trans (congrArg (accB i e k p + ·) (Finset.sum_congr rfl fun l _ => ?_))
    have h0 := grp_lt e he 0 k hk' (at16 (Shape.ofLane (d := ![16]) l))
    have h1 := grp_lt e he 1 k hk' (at16 (Shape.ofLane (d := ![16]) l))
    have hm := maskB i (grp e 1 k hk') (Shape.ofLane (d := ![16]) l) h1
    have hq := placeB i (grp e 0 k hk') (grp e 1 k hk') (Shape.ofLane (d := ![16]) l) h0 h1
    rw [grp_word] at hm hq h0 h1
    rw [grp_word] at hq
    unfold hit
    have hw := widN_lt i
    refine if_congr ?_ Ideal.ofBits_one_f32 rfl
    rw [hm]
    constructor
    · rintro ⟨hr, ha⟩
      have ha := ha 0
      rw [if_pos hr] at hq
      have ha : (p 0).val = (word e 1 (16 * k + l.val) - widN i * 2) * 64 + word e 0 (16 * k + l.val) := ha.trans hq
      omega
    · rintro ⟨hd, hs⟩
      have hr : widN i * 2 ≤ word e 1 (16 * k + l.val) ∧ word e 1 (16 * k + l.val) < widN i * 2 + 2 := by omega
      refine ⟨hr, fun a => ?_⟩
      rw [if_pos hr] at hq
      rw [Fin.eq_zero a]
      refine Eq.trans ?_ hq.symm
      omega

/-- Task `w` is the task at its coordinates. -/
theorem widN_coordsOf (w : Fin 32) : widN (coordsOf w) = w.val := by
  show w.val / 2 * 2 + w.val % 2 = _; omega

/-- The first result at the flat place `j`: the edges from `j % 512` to `j / 512`. -/
theorem outA_count (e : S2x4096.Idx → Elt Ideal .i32) (he : ∀ j, BitVec.toNat (e j) < 512) (j : S262144.Idx) :
    (outA (F := Ideal) e j : EReal) = count e ((j 0).val / 512) ((j 0).val % 512) 4096 := by
  have hj : (j 0).val < 262144 := (j 0).isLt
  refine (accA_count _ e he _ 256 le_rfl).trans ?_
  rw [widN_coordsOf]
  congr 1
  · show (j 0).val / 8192 * 16 + (j 0).val % 8192 / 512 = _; omega
  · show (j 0).val % 8192 % 512 = _; omega

/-- The second result at the flat place `j`: the edges from `j % 64` to `j / 64`. -/
theorem outB_count (e : S2x512.Idx → Elt Ideal .i32) (he : ∀ j, BitVec.toNat (e j) < 64) (j : S4096.Idx) :
    (outB (F := Ideal) e j : EReal) = count e ((j 0).val / 64) ((j 0).val % 64) 512 := by
  have hj : (j 0).val < 4096 := (j 0).isLt
  refine (accB_count _ e he _ 32 le_rfl).trans ?_
  rw [widN_coordsOf]
  congr 1
  · show (j 0).val / 128 * 2 + (j 0).val % 128 / 64 = _; omega
  · show (j 0).val % 128 % 64 = _; omega

end Cert.Proof.Adj

end
-- ==== Proof.BodyVal.lean ====
/-
  What the second call's body computes, read at an index: the eight weight products of the scratch, and the result
  block as sums of products of the blocks' elements.
-/
module

public import proofs.«01_k».proof.Proof.TcBody
public import Idealize.ShloMosaic.Lib.Pointwise
public import Idealize.ShloMosaic.Lib.Affine

@[expose] public section

set_option maxRecDepth 16384

noncomputable section

namespace Cert.Proof.Adj

open Cert.KernelIdeal Cert.KernelIdeal.Gen
open Idealize.ShloMosaic

/-- A sequence of 64 between two zeros on either side: position `q` holds element `q - 2`, or zero outside. -/
def pad {α : Type} [Zero α] (Y : Fin 64 → α) (q : ℕ) : α := if h : 2 ≤ q ∧ q < 66 then Y ⟨q - 2, by omega⟩ else 0

/-- The modulus the row mask divides by is 64. -/
theorem tsel : (Scalar.select (Scalar.cmpi .eq 64#32 0#32) 1#32 64#32 : BitVec 32) = 64#32 := by decide

/-- The row number modulo 64, as the body computes it. -/
theorem seqpos (r : Fin 8192) : k1_pay27 64#32 k1_pay26 (ix2 r 0) = BitVec.ofNat 32 (r.val % 64) := by
  pointwise [k1_pay27, k1_pay26]
  rw [tsel]
  have hr : IntOp.remsi ArithUnit.vector (BitVec.ofNat 32 r.val) 64#32 = BitVec.ofNat 32 (r.val % 64) := by
    have h0 : (BitVec.ofNat 32 r.val).toNat = r.val := by rw [BitVec.toNat_ofNat]; omega
    apply BitVec.eq_of_toNat_eq
    rw [show (64#32 : BitVec 32) = BitVec.ofNat 32 64 from rfl, IntOp.toNat_remsi _ (by omega) 64 (by norm_num) (by norm_num), h0, BitVec.toNat_ofNat]
    omega
  rw [hr]
  obtain ⟨m, hm⟩ : ∃ m : Fin 64, r.val % 64 = m.val := ⟨⟨r.val % 64, Nat.mod_lt _ (by norm_num)⟩, rfl⟩
  rw [hm]
  revert m
  clear hr
  suffices h : ∀ m : Fin 64, Scalar.select
      (IntOp.andi
        (IntOp.xori (IntOp.cmpi CmpIPredicate.slt (BitVec.ofNat 32 m.val) 0#32)
          (Scalar.cmpi CmpIPredicate.slt 64#32 0#32))
        (IntOp.cmpi CmpIPredicate.ne (BitVec.ofNat 32 m.val) 0#32))
      (IntOp.addi (BitVec.ofNat 32 m.val) 64#32)
      (BitVec.ofNat 32 m.val) = BitVec.ofNat 32 m.val from fun m _ => h m
  decide

/-- The mask that keeps rows at or past a sequence bound, at one element. -/
theorem sel_ge (r : ℕ) (c : Fin 64) (s : Fin 64) (hr : r % 64 = s.val) (y : EReal) :
    Scalar.select (IntOp.cmpi .sge (BitVec.ofNat 32 (r % 64)) (BitVec.ofNat 32 c.val)) y 0 = if c.val ≤ s.val then y else 0 := by
  rw [hr]
  have : ∀ c s : Fin 64, IntOp.cmpi .sge (BitVec.ofNat 32 s.val) (BitVec.ofNat 32 c.val) = if c.val ≤ s.val then 1#1 else 0#1 := by decide +kernel
  rw [this]
  split <;> simp [Scalar.select]

/-- The mask that keeps rows before a sequence bound, at one element. -/
theorem sel_lt (r : ℕ) (c : Fin 64) (s : Fin 64) (hr : r % 64 = s.val) (y : EReal) :
    Scalar.select (IntOp.cmpi .slt (BitVec.ofNat 32 (r % 64)) (BitVec.ofNat 32 c.val)) y 0 = if s.val < c.val then y else 0 := by
  rw [hr]
  have : ∀ c s : Fin 64, IntOp.cmpi .slt (BitVec.ofNat 32 s.val) (BitVec.ofNat 32 c.val) = if s.val < c.val then 1#1 else 0#1 := by decide +kernel
  rw [this]
  split <;> simp [Scalar.select]

/-- An index into a slot of the scratch, read within the slot. -/
theorem slotIx_ix3 (k : Fin 8) (o f : Fin 64) : slotIx (ix3 k o f) = ix3 0 o f := by
  funext a
  match a with
  | ⟨0, _⟩ => rfl
  | ⟨1, _⟩ => rfl
  | ⟨2, _⟩ => rfl

variable (x5 x6 x7 x13 x14 x15 : Vec Ideal S64x64 .f32) (x8 x10 x16 : Vec Ideal S1x64 .f32) (x11 : Vec Ideal S3x64x64 .f32) (x12 : Vec Ideal S5x64x64 .f32)

local notation "tW" => tcW x5 x6 x7 x8 x10 x11 x12 x13 x14 x15 x16

/-- Slot 0: the projection's first part times the spatial neighbour weight. -/
theorem tcW0 (o f : Fin 64) : tW (ix3 0 o f) = ∑ p, x13 (ix2 o p) * x6 (ix2 p f) := by
  have : tW (ix3 0 o f) = k1_pay15 (k1_pay1 x13) x6 (ix3 0 o f) := congrArg _ (slotIx_ix3 _ _ _)
  rw [this]
  pointwise [k1_pay15, k1_pay1]

/-- Slot 1: the terms that multiply the row itself: the spatial self weight and both convolutions' middle taps. -/
theorem tcW1 (o f : Fin 64) : tW (ix3 1 o f) = ∑ p, x13 (ix2 o p) * x7 (ix2 p f)
    + (∑ p, x15 (ix2 o p) * x12 (ix3 2 p f) + ∑ p, x15 (ix2 o p) * x11 (ix3 1 p f)) := by
  have : tW (ix3 1 o f) = k1_pay16 (k1_pay1 x13) (k1_pay8 x15 x11 x12) x7 (ix3 0 o f) := congrArg _ (slotIx_ix3 _ _ _)
  rw [this]
  pointwise [k1_pay16, k1_pay1, k1_pay8, k1_pay3, k1_pay4, k1_pay5]

/-- Slot 2: the row two before: the wide convolution's first tap. -/
theorem tcW2 (o f : Fin 64) : tW (ix3 2 o f) = ∑ p, x15 (ix2 o p) * x12 (ix3 0 p f) := by
  have : tW (ix3 2 o f) = k1_pay17 (k1_pay6 x15 x12) (ix3 0 o f) := congrArg _ (slotIx_ix3 _ _ _)
  rw [this]
  pointwise [k1_pay17, k1_pay6, k1_pay3, k1_pay4, k1_pay5]

/-- Slot 3: the row before: a tap of each convolution. -/
theorem tcW3 (o f : Fin 64) : tW (ix3 3 o f) = ∑ p, x15 (ix2 o p) * x12 (ix3 1 p f) + ∑ p, x15 (ix2 o p) * x11 (ix3 0 p f) := by
  have : tW (ix3 3 o f) = k1_pay18 (k1_pay7 x15 x11 x12) (ix3 0 o f) := congrArg _ (slotIx_ix3 _ _ _)
  rw [this]
  pointwise [k1_pay18, k1_pay7, k1_pay3, k1_pay4, k1_pay5]

/-- Slot 4: the row after: a tap of each convolution. -/
theorem tcW4 (o f : Fin 64) : tW (ix3 4 o f) = ∑ p, x15 (ix2 o p) * x12 (ix3 3 p f) + ∑ p, x15 (ix2 o p) * x11 (ix3 2 p f) := by
  have : tW (ix3 4 o f) = k1_pay19 (k1_pay9 x15 x11 x12) (ix3 0 o f) := congrArg _ (slotIx_ix3 _ _ _)
  rw [this]
  pointwise [k1_pay19, k1_pay9, k1_pay3, k1_pay4, k1_pay5]

/-- Slot 5: the row two after: the wide convolution's last tap. -/
theorem tcW5 (o f : Fin 64) : tW (ix3 5 o f) = ∑ p, x15 (ix2 o p) * x12 (ix3 4 p f) := by
  have : tW (ix3 5 o f) = k1_pay20 (k1_pay10 x15 x12) (ix3 0 o f) := congrArg _ (slotIx_ix3 _ _ _)
  rw [this]
  pointwise [k1_pay20, k1_pay10, k1_pay3, k1_pay4, k1_pay5]

/-- Slot 6: the projection's second part times the feature graph's mean. -/
theorem tcW6 (o u : Fin 64) : tW (ix3 6 o u) = ∑ v, x14 (ix2 o v) * Ideal.div (x5 (ix2 v u)) (max (∑ w, x5 (ix2 v w)) 1) := by
  have : tW (ix3 6 o u) = k1_pay21 (k1_pay2 x14) (k1_pay11 x5) (k1_pay12 x5) (ix3 0 o u) := congrArg _ (slotIx_ix3 _ _ _)
  rw [this]
  pointwise [k1_pay21, k1_pay2, k1_pay11, k1_pay12]

/-- Slot 7: the biases, projected. -/
theorem tcW7 (s o : Fin 64) : tW (ix3 7 s o) = x10 (ix2 0 s) * ∑ v, x14 (ix2 o v) + (x16 (ix2 0 o) + ∑ p, x8 (ix2 0 p) * x13 (ix2 o p)) := by
  have : tW (ix3 7 s o) = k1_pay22 (k1_pay13 (k1_pay1 x13) x16 x8) (k1_pay14 (k1_pay2 x14) x10) (ix3 0 s o) := congrArg _ (slotIx_ix3 _ _ _)
  rw [this]
  pointwise [k1_pay22, k1_pay13, k1_pay1, k1_pay14, k1_pay2]
  simp

/-- The result block at node `n`, position `s`, output `o`. -/
theorem tcOut_apply (x3 : Vec Ideal S1x128x64x64 .f32) (x4 : Vec Ideal S128x512 .f32) (x2 : Vec Ideal S1x512x4096 .f32) (x18 : Vec Ideal S8x64x64 .f32) (x9 : Vec Ideal S128x64 .f32) (x14 : Vec Ideal S64x64 .f32) (n : Fin 128) (s o : Fin 64) :
    tcOut x2 x3 x4 x9 x14 x18 (ix4 0 n s o) = x3 (ix4 0 n s o)
      + ((((((((∑ u, Ideal.div (∑ m, x4 (ix2 n m) * x2 (ix3 0 m ⟨s.val * 64 + u.val, by omega⟩)) (max (∑ m, x4 (ix2 n m)) 1) * x18 (ix3 0 o u))
        + ∑ u, x3 (ix4 0 n s u) * x18 (ix3 1 o u))
        + ∑ u, pad (fun t => x3 (ix4 0 n t u)) s.val * x18 (ix3 2 o u))
        + ∑ u, pad (fun t => x3 (ix4 0 n t u)) (s.val + 1) * x18 (ix3 3 o u))
        + ∑ u, pad (fun t => x3 (ix4 0 n t u)) (s.val + 3) * x18 (ix3 4 o u))
        + ∑ u, pad (fun t => x3 (ix4 0 n t u)) (s.val + 4) * x18 (ix3 5 o u))
        + ∑ u, (∑ t, x9 (ix2 ⟨s.val, by omega⟩ t) * x3 (ix4 0 n t u)) * x18 (ix3 6 o u))
        + ∑ u, (∑ t, x9 (ix2 ⟨64 + s.val, by omega⟩ t) * x3 (ix4 0 n t u)) * x14 (ix2 o u))
      + x18 (ix3 7 s o) := by
  unfold tcOut
  rw [tsel]
  pointwise [k1_pay32, k1_pay28, k1_pay29, k1_pay30, k1_pay31, k1_pay25, k1_pay24, k1_pay23, seqpos]
  have hm : (n.val * 64 + s.val) % 64 = s.val := by omega
  have e2 := sel_ge (n.val * 64 + s.val) 2 s hm
  have e1 := sel_ge (n.val * 64 + s.val) 1 s hm
  have l1 := sel_lt (n.val * 64 + s.val) 63 s hm
  have l2 := sel_lt (n.val * 64 + s.val) 62 s hm
  simp only [show ((2 : Fin 64).val) = 2 from rfl, show ((1 : Fin 64).val) = 1 from rfl, show ((63 : Fin 64).val) = 63 from rfl, show ((62 : Fin 64).val) = 62 from rfl] at e1 e2 l1 l2
  have at_ix : ∀ (a a' : Fin 128) (t t' u : Fin 64), a.val = a'.val → t.val = t'.val → x3 (ix4 0 a t u) = x3 (ix4 0 a' t' u) := by
    intro a a' t t' u ha ht
    rw [Fin.ext ha, Fin.ext ht]
  refine congrArg₂ (· + ·) (congrArg₂ (· + ·) rfl (congrArg₂ (· + ·) (congrArg₂ (· + ·) (congrArg₂ (· + ·) (congrArg₂ (· + ·) (congrArg₂ (· + ·) (congrArg₂ (· + ·) rfl ?_) ?_) ?_) ?_) rfl) rfl)) rfl
  · refine Finset.sum_congr rfl fun u _ => (e2 _).trans ?_
    unfold pad
    by_cases h : 2 ≤ s.val
    · rw [if_pos h, dif_neg (by omega), dif_pos (by omega)]
      exact congrArg (· * _) (at_ix _ _ _ _ u (by dsimp only; omega) (by dsimp only; omega))
    · rw [if_neg h, dif_neg (by omega), zero_mul]
  · refine Finset.sum_congr rfl fun u _ => (e1 _).trans ?_
    unfold pad
    by_cases h : 1 ≤ s.val
    · rw [if_pos h, dif_neg (by omega), dif_pos (by omega)]
      exact congrArg (· * _) (at_ix _ _ _ _ u (by dsimp only; omega) (by dsimp only; omega))
    · rw [if_neg h, dif_neg (by omega), zero_mul]
  · refine Finset.sum_congr rfl fun u _ => (l1 _).trans ?_
    unfold pad
    by_cases h : s.val < 63
    · rw [if_pos h, dif_pos (by omega), dif_pos (by omega)]
      exact congrArg (· * _) (at_ix _ _ _ _ u (by dsimp only; omega) (by dsimp only; omega))
    · rw [if_neg h, dif_neg (by omega), zero_mul]
  · refine Finset.sum_congr rfl fun u _ => (l2 _).trans ?_
    unfold pad
    by_cases h : s.val < 62
    · rw [if_pos h, dif_pos (by omega), dif_pos (by omega)]
      exact congrArg (· * _) (at_ix _ _ _ _ u (by dsimp only; omega) (by dsimp only; omega))
    · rw [if_neg h, dif_neg (by omega), zero_mul]

end Cert.Proof.Adj

end
-- ==== Proof.RefVal.lean ====
/-
  The reference's result read at an index: sums of products of the arguments' elements.
-/
module

public import proofs.«01_k».proof.Proof.Gen.ReferenceIdeal.Run
public import proofs.«01_k».proof.Proof.Gen.ReferenceIdeal.Read
public import proofs.«01_k».proof.Proof.Routes
public import proofs.«01_k».proof.Proof.Count
public import proofs.«01_k».proof.Proof.BodyVal

@[expose] public section

set_option maxRecDepth 16384

noncomputable section

namespace Cert.Proof.Adj

open Idealize.ShloMosaic
open Cert.ReferenceIdeal Cert.ReferenceIdeal.Gen Cert.ReferenceIdeal.Read

/-- A word below `2 ^ 31` is not negative: the reference's wrap of negative words leaves it. -/
theorem wrap_small (x y : BitVec 32) (h : x.toNat < 2 ^ 31) : Scalar.select (IntOp.cmpi .slt x 0x0#32) y x = x := by
  have hn : ¬ x.slt 0x0#32 := by
    rw [BitVec.slt_iff_toInt_lt, BitVec.toInt_eq_toNat_of_lt (by omega)]; simp
  simp [Scalar.select, IntOp.cmpi, hn]

/-- The word of edge `k` on row `r` of a list. -/
theorem word_eq {N : Nat} (e : (⟨2, ![2, N]⟩ : Shape).Idx → BitVec 32) (r : Fin 2) (k : Fin N) : word e r k.val = (e (ix2 r k)).toNat := by
  rw [word, dif_pos k.isLt]
  refine congrArg (fun t => (e t).toNat) (funext fun b => ?_)
  match b with
  | ⟨0, _⟩ => rfl
  | ⟨1, _⟩ => rfl

/-- A wrapped word, read signed, is the list's. -/
theorem wrapped {N : Nat} (e : (⟨2, ![2, N]⟩ : Shape).Idx → BitVec 32) (he : ∀ j, (e j).toNat < 512) (r : Fin 2) (k : Fin N) (y : BitVec 32) :
    (Scalar.select (IntOp.cmpi .slt (e (ix2 r k)) 0x0#32) y (e (ix2 r k))).toInt = word e r k.val := by
  have h := he (ix2 r k)
  rw [wrap_small _ _ (h.trans (by norm_num)), word_eq, BitVec.toInt_eq_toNat_of_lt (by omega)]

variable (e : S2x4096.Idx → BitVec 32) (g : S2x512.Idx → BitVec 32)

/-- The reference reads the source word of an edge at this index. -/
theorem wd11 (he : ∀ j, (e j).toNat < 512) (k : Fin 4096) : (val_main_v11 (F := Ideal) e (ix2 k 0)).toInt = word e 0 k.val := by
  rw [← wrapped e he 0 k (IntOp.addi (e (ix2 0 k)) 512#32)]
  pointwise [val_main_v11, val_main_v10, val_main_v9, val_main_v8, val_main_v7, val_main_v6, val_main_v3, val_main_v2, val_main_c, val_main_c_0]

/-- The reference reads the target word of an edge at this index. -/
theorem wd19 (he : ∀ j, (e j).toNat < 512) (k : Fin 4096) : (val_main_v19 (F := Ideal) e (ix2 k 0)).toInt = word e 1 k.val := by
  rw [← wrapped e he 1 k (IntOp.addi (e (ix2 1 k)) 512#32)]
  pointwise [val_main_v19, val_main_v18, val_main_v17, val_main_v16, val_main_v15, val_main_v14, val_main_v5, val_main_v4, val_main_c_1, val_main_c_2]

/-- The reference reads the target word of an edge at this index. -/
theorem wd27 (he : ∀ j, (e j).toNat < 512) (k : Fin 4096) : (val_main_v27 (F := Ideal) e (ix2 k 0)).toInt = word e 1 k.val := by
  rw [← wrapped e he 1 k (IntOp.addi (e (ix2 1 k)) 512#32)]
  pointwise [val_main_v27, val_main_v26, val_main_v25, val_main_v24, val_main_v23, val_main_v22, val_main_v5, val_main_v4, val_main_c_4, val_main_c_5]

/-- The reference reads the source word of an edge at this index. -/
theorem wd56 (hg : ∀ j, (g j).toNat < 64) (k : Fin 512) : (val_main_v56 (F := Ideal) g (ix2 k 0)).toInt = word g 0 k.val := by
  rw [← wrapped g (fun j => (hg j).trans (by norm_num)) 0 k (IntOp.addi (g (ix2 0 k)) 64#32)]
  pointwise [val_main_v56, val_main_v55, val_main_v54, val_main_v53, val_main_v52, val_main_v51, val_main_v48, val_main_v47, val_main_c_8, val_main_c_9]

/-- The reference reads the target word of an edge at this index. -/
theorem wd64 (hg : ∀ j, (g j).toNat < 64) (k : Fin 512) : (val_main_v64 (F := Ideal) g (ix2 k 0)).toInt = word g 1 k.val := by
  rw [← wrapped g (fun j => (hg j).trans (by norm_num)) 1 k (IntOp.addi (g (ix2 1 k)) 64#32)]
  pointwise [val_main_v64, val_main_v63, val_main_v62, val_main_v61, val_main_v60, val_main_v59, val_main_v50, val_main_v49, val_main_c_11, val_main_c_12]

/-- The reference reads the target word of an edge at this index. -/
theorem wd72 (hg : ∀ j, (g j).toNat < 64) (k : Fin 512) : (val_main_v72 (F := Ideal) g (ix2 k 0)).toInt = word g 1 k.val := by
  rw [← wrapped g (fun j => (hg j).trans (by norm_num)) 1 k (IntOp.addi (g (ix2 1 k)) 64#32)]
  pointwise [val_main_v72, val_main_v71, val_main_v70, val_main_v69, val_main_v68, val_main_v67, val_main_v50, val_main_v49, val_main_c_14, val_main_c_15]

variable (x : S4x512x64x64.Idx → EReal)

/-- The messages each node receives, summed. -/
theorem agg_apply (he : ∀ j, (e j).toNat < 512) (b : Fin 4) (s : Fin 64) (n : Fin 512) (f : Fin 64) :
    val_main_v20 (F := Ideal) x e (ix3 ⟨b.val * 64 + s.val, by omega⟩ n f)
      = ∑ k : Fin 4096, if word e 1 k.val = n.val then x (ix4 b ⟨word e 0 k.val, word_lt (by norm_num) e he 0 k.val⟩ s f) else 0 := by
  refine (rowsAdd_apply _ _ _ _ _ _ _).trans ?_
  have hz : val_main_v13 (F := Ideal) (ix3 ⟨b.val * 64 + s.val, by omega⟩ n f) = 0 := by
    pointwise [val_main_v13, val_main_cst]
  rw [hz, zero_add]
  refine Finset.sum_congr rfl fun k _ => ?_
  rw [wd19 e he]
  refine if_congr (by omega) ?_ rfl
  refine (rowsTake_apply _ _ _ _ _ _ ⟨word e 0 k.val, word_lt (by norm_num) e he 0 k.val⟩ (wd11 e he k)).trans ?_
  pointwise [val_main_v1, val_main_v0]

/-- The reference's degree of a node, as a sum over edges. -/
theorem deg_apply (he : ∀ j, (e j).toNat < 512) (n : Fin 512) :
    val_main_v29 (F := Ideal) e (ix1 n) = ∑ k : Fin 4096, if word e 1 k.val = n.val then (1 : EReal) else 0 := by
  refine (itemsAdd_apply _ _ _ _ _).trans ?_
  have hz : val_main_v21 (F := Ideal) (ix1 n) = 0 := by
    pointwise [val_main_v21, val_main_cst_3]
  rw [hz, zero_add]
  refine Finset.sum_congr rfl fun k _ => ?_
  rw [wd27 e he]
  refine if_congr (by omega) ?_ rfl
  pointwise [val_main_v28, val_main_cst_6]

/-- The feature graph's aggregate at a node, as a sum over edges. -/
theorem aggf_apply (hg : ∀ j, (g j).toNat < 64) (b : Fin 4) (n : Fin 512) (v t : Fin 64) :
    val_main_v65 (F := Ideal) x g (ix3 ⟨b.val * 512 + n.val, by omega⟩ v t)
      = ∑ k : Fin 512, if word g 1 k.val = v.val then x (ix4 b n t ⟨word g 0 k.val, word_lt (by norm_num) g hg 0 k.val⟩) else 0 := by
  refine (rowsAdd_apply _ _ _ _ _ _ _).trans ?_
  have hz : val_main_v58 (F := Ideal) (ix3 ⟨b.val * 512 + n.val, by omega⟩ v t) = 0 := by
    pointwise [val_main_v58, val_main_cst_10]
  rw [hz, zero_add]
  refine Finset.sum_congr rfl fun k _ => ?_
  rw [wd64 g hg]
  refine if_congr (by omega) ?_ rfl
  refine (rowsTake_apply _ _ _ _ _ _ ⟨word g 0 k.val, word_lt (by norm_num) g hg 0 k.val⟩ (wd56 g hg k)).trans ?_
  pointwise [val_main_v46, val_main_v45]

/-- The feature graph's degree of a node, as a sum over edges. -/
theorem degf_apply (hg : ∀ j, (g j).toNat < 64) (v : Fin 64) :
    val_main_v74 (F := Ideal) g (ix1 v) = ∑ k : Fin 512, if word g 1 k.val = v.val then (1 : EReal) else 0 := by
  refine (itemsAdd_apply _ _ _ _ _).trans ?_
  have hz : val_main_v66 (F := Ideal) (ix1 v) = 0 := by
    pointwise [val_main_v66, val_main_cst_13]
  rw [hz, zero_add]
  refine Finset.sum_congr rfl fun k _ => ?_
  rw [wd72 g hg]
  refine if_congr (by omega) ?_ rfl
  pointwise [val_main_v73, val_main_cst_16]

/-- The spatial layer's value: the mean message and the node's own row through two weights, and a bias. -/
theorem sp_apply (Wl Wr : S64x64.Idx → EReal) (bg : S64.Idx → EReal) (he : ∀ j, (e j).toNat < 512) (b : Fin 4) (n : Fin 512) (s p : Fin 64) :
    val_main_v44 (F := Ideal) x e Wl Wr bg (ix4 b n s p)
      = ∑ f, Ideal.div (∑ k : Fin 4096, if word e 1 k.val = n.val then x (ix4 b ⟨word e 0 k.val, word_lt (by norm_num) e he 0 k.val⟩ s f) else 0)
            (max (∑ k : Fin 4096, if word e 1 k.val = n.val then (1 : EReal) else 0) 1) * Wl (ix2 p f)
        + ∑ f, x (ix4 b n s f) * Wr (ix2 p f) + bg (ix1 p) := by
  pointwise [val_main_v44, val_main_v43, val_main_v42, val_main_v41, val_main_v40, val_main_v39, val_main_v38, val_main_v37, val_main_v36, val_main_v35, val_main_v34, val_main_v33, val_main_v32, val_main_v31, val_main_v30, val_main_cst_7, val_main_v1, val_main_v0]
  rw [deg_apply e he n]
  refine congrArg (· + _) (congrArg (· + _) (Finset.sum_congr rfl fun f _ => ?_))
  rw [agg_apply e x he b s n f]

/-- The feature layer's value. -/
theorem fe_apply (Wfl Wfr : S64x64.Idx → EReal) (bfg : S64.Idx → EReal) (hg : ∀ j, (g j).toNat < 64) (b : Fin 4) (n : Fin 512) (s v : Fin 64) :
    val_main_v89 (F := Ideal) x g Wfl Wfr bfg (ix4 b n s v)
      = ∑ t, Ideal.div (∑ k : Fin 512, if word g 1 k.val = v.val then x (ix4 b n t ⟨word g 0 k.val, word_lt (by norm_num) g hg 0 k.val⟩) else 0)
            (max (∑ k : Fin 512, if word g 1 k.val = v.val then (1 : EReal) else 0) 1) * Wfl (ix2 s t)
        + ∑ t, x (ix4 b n t v) * Wfr (ix2 s t) + bfg (ix1 s) := by
  pointwise [val_main_v89, val_main_v88, val_main_v87, val_main_v86, val_main_v85, val_main_v84, val_main_v83, val_main_v82, val_main_v81, val_main_v80, val_main_v79, val_main_v78, val_main_v77, val_main_v76, val_main_v75, val_main_cst_17, val_main_v46, val_main_v45]
  rw [degf_apply g hg v]
  refine congrArg (· + _) (congrArg (· + _) (Finset.sum_congr rfl fun t _ => ?_))
  rw [aggf_apply g x hg b n v t]

/-- The word zero converts to zero. -/
theorem zero_word : (FloatOps.sitofp (F := Ideal) FTy.f32 0#32 : EReal) = 0 := by
  simp [FloatOps.sitofp]

/-- A padded row at a place, as the reference's slice of a padded array reads it. -/
theorem pad_tap (b : Fin 4) (n : Fin 512) (f : Fin 64) (q : ℕ) (c : Prop) [Decidable c] (t : c → Fin 64)
    (hc : c ↔ (2 ≤ q ∧ q < 66)) (ht : ∀ h, (t h).val = q - 2) :
    (if h : c then x (ix4 b n (t h) f) else FloatOps.sitofp (F := Ideal) FTy.f32 0#32 : EReal) = pad (fun t => x (ix4 b n t f)) q := by
  unfold pad
  by_cases h : c
  · rw [dif_pos h, dif_pos (hc.1 h)]
    exact congrArg (fun t => x (ix4 b n t f)) (Fin.ext (ht h))
  · rw [dif_neg h, dif_neg (fun h' => h (hc.2 h')), zero_word]

/-- The two convolutions' value: three taps and five, over the padded sequence. -/
theorem te_apply (c1 : S64x64x3.Idx → EReal) (c2 : S64x64x5.Idx → EReal) (b : Fin 4) (n : Fin 512) (s p : Fin 64) :
    val_main_v140 (F := Ideal) x c1 c2 (ix4 b n s p)
      = ∑ f, pad (fun t => x (ix4 b n t f)) (s.val + 1) * c1 (ix3 p f 0) + ∑ f, x (ix4 b n s f) * c1 (ix3 p f 1)
          + ∑ f, pad (fun t => x (ix4 b n t f)) (s.val + 3) * c1 (ix3 p f 2)
        + (∑ f, pad (fun t => x (ix4 b n t f)) s.val * c2 (ix3 p f 0) + ∑ f, pad (fun t => x (ix4 b n t f)) (s.val + 1) * c2 (ix3 p f 1)
          + ∑ f, x (ix4 b n s f) * c2 (ix3 p f 2)
          + ∑ f, pad (fun t => x (ix4 b n t f)) (s.val + 3) * c2 (ix3 p f 3)
          + ∑ f, pad (fun t => x (ix4 b n t f)) (s.val + 4) * c2 (ix3 p f 4)) := by
  pointwise [val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_call1_v0, val_main_c_19, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_call0_v0, val_main_c_18, val_main_v90]
  refine congrArg₂ (· + ·) (congrArg₂ (· + ·) (congrArg₂ (· + ·) ?_ ?_) ?_) (congrArg₂ (· + ·) (congrArg₂ (· + ·) (congrArg₂ (· + ·) (congrArg₂ (· + ·) ?_ ?_) ?_) ?_) ?_)
  · exact Finset.sum_congr rfl fun f _ => congrArg (· * _) (pad_tap x b n f _ _ _ (by omega) (fun h => by dsimp only; omega))
  · exact Finset.sum_congr rfl fun f _ => congrArg (· * _) (dif_pos (by omega))
  · exact Finset.sum_congr rfl fun f _ => congrArg (· * _) (pad_tap x b n f _ _ _ (by omega) (fun h => by dsimp only; omega))
  · exact Finset.sum_congr rfl fun f _ => congrArg (· * _) (pad_tap x b n f _ _ _ (by omega) (fun h => by dsimp only <;> omega))
  · exact Finset.sum_congr rfl fun f _ => congrArg (· * _) (pad_tap x b n f _ _ _ (by omega) (fun h => by dsimp only; omega))
  · exact Finset.sum_congr rfl fun f _ => congrArg (· * _) (dif_pos (by omega))
  · exact Finset.sum_congr rfl fun f _ => congrArg (· * _) (pad_tap x b n f _ _ _ (by omega) (fun h => by dsimp only; omega))
  · exact Finset.sum_congr rfl fun f _ => congrArg (· * _) (pad_tap x b n f _ _ _ (by omega) (fun h => by dsimp only; omega))

/-- A sum over the 192 stacked features, layer by layer. -/
theorem sum_layers {M : Type} [AddCommMonoid M] (h : Fin 192 → M) :
    ∑ p, h p = ∑ p : Fin 64, h ⟨p.val, by omega⟩ + ∑ p : Fin 64, h ⟨64 + p.val, by omega⟩ + ∑ p : Fin 64, h ⟨128 + p.val, by omega⟩ := by
  rw [show (∑ p, h p) = ∑ p : Fin (128 + 64), h p from rfl, Fin.sum_univ_add]
  refine congrArg₂ (· + ·) ?_ rfl
  exact (Fin.sum_univ_add (a := 64) (b := 64) (fun p : Fin (64 + 64) => h (Fin.castAdd 64 p)))

/-- The reference's result: the row plus the three layers through the last weight, and its bias. -/
theorem out_apply (Wl Wr Wfl Wfr : S64x64.Idx → EReal) (bg bfg fcb : S64.Idx → EReal)
    (c1 : S64x64x3.Idx → EReal) (c2 : S64x64x5.Idx → EReal) (fc : S64x192.Idx → EReal) (b : Fin 4) (n : Fin 512) (s o : Fin 64) :
    val_main_v147 (F := Ideal) x e g Wl Wr bg Wfl Wfr bfg c1 c2 fc fcb (ix4 b n s o)
      = x (ix4 b n s o) + (∑ p : Fin 64, val_main_v44 (F := Ideal) x e Wl Wr bg (ix4 b n s p) * fc (ix2 o ⟨p.val, by omega⟩)
          + ∑ p : Fin 64, val_main_v89 (F := Ideal) x g Wfl Wfr bfg (ix4 b n s p) * fc (ix2 o ⟨64 + p.val, by omega⟩)
          + ∑ p : Fin 64, val_main_v140 (F := Ideal) x c1 c2 (ix4 b n s p) * fc (ix2 o ⟨128 + p.val, by omega⟩) + fcb (ix1 o)) := by
  pointwise [val_main_v147, val_main_v146, val_main_v145, val_main_v144, val_main_v143, val_main_v142, val_main_v141]
  refine congrArg (x (ix4 b n s o) + ·) (congrArg (· + _) ((sum_layers _).trans ?_))
  refine congrArg₂ (· + ·) (congrArg₂ (· + ·) ?_ ?_) ?_
  · exact Finset.sum_congr rfl fun p _ => congrArg (· * _) (dif_pos p.isLt)
  · refine Finset.sum_congr rfl fun p _ => congrArg (· * _) ((dif_neg (by dsimp only; omega)).trans ((dif_pos (by dsimp only; omega)).trans ?_))
    exact congrArg (fun p => val_main_v89 (F := Ideal) x g Wfl Wfr bfg (ix4 b n s p)) (Fin.ext (by dsimp only; omega))
  · refine Finset.sum_congr rfl fun p _ => congrArg (· * _) ((dif_neg (by dsimp only; omega)).trans ((dif_neg (by dsimp only; omega)).trans ?_))
    exact congrArg (fun p => val_main_v140 (F := Ideal) x c1 c2 (ix4 b n s p)) (Fin.ext (by dsimp only; omega))

end Cert.Proof.Adj

end
-- ==== Proof.ArrVal.lean ====
/-
  The second call's result array, element by element, from the arrays it is given: each window's block read at an index,
  and the array as the blocks the sixteen grid points leave.
-/
module

public import proofs.«01_k».proof.Proof.TcRegion
public import proofs.«01_k».proof.Proof.BodyVal
public import Idealize.ShloMosaic.Lib.Pipeline.ValueKit

@[expose] public section

set_option maxRecDepth 16384

noncomputable section

namespace Cert.Proof.Adj

open Cert.KernelIdeal Cert.KernelIdeal.Gen
open Idealize.ShloMosaic Idealize.ShloMosaic.TcCoe

variable (W : (d : Dev nD) → Valuation τ sig (Elt Ideal))

/-- The batch of a grid point. -/
def gb (t : Fin cfg1.N) : Fin 4 := ⟨t.val / 4, by have := t.isLt; have h : cfg1.N = 16 := rfl; omega⟩

/-- The node of a grid point's row. -/
def gn (t : Fin cfg1.N) (n : Fin 128) : Fin 512 := ⟨t.val % 4 * 128 + n.val, by omega⟩

/-- The first input window moves with the batch alone. -/
theorem at0 : ∀ t : Fin grid1.N, win1_0.index t = ![t.val / 4, 0, 0] := by decide +kernel
/-- The second input window moves with the batch and the row group. -/
theorem at1 : ∀ t : Fin grid1.N, win1_1.index t = ![t.val / 4, t.val % 4, 0, 0] := by decide +kernel
/-- The third input window moves with the row group alone. -/
theorem at2 : ∀ t : Fin grid1.N, win1_2.index t = ![t.val % 4, 0] := by decide +kernel
/-- The output window moves with the batch and the row group. -/
theorem at15 : ∀ t : Fin grid1.N, win1_15.index t = ![t.val / 4, t.val % 4, 0, 0] := by decide +kernel

/-- The first window's block at a step is the batch's slice of the array it views. -/
theorem blk0 (c : Dev nD) (t : Fin cfg1.N) (m : Fin 512) (q : Fin 4096) :
    blkAt W c 0 t (ix3 0 m q) = (W c (Proc.devRef .tc main_v3) : S4x512x4096.Idx → EReal) (ix3 (gb t) m q) := by
  refine congrArg (W c (Proc.devRef .tc main_v3) : S4x512x4096.Idx → EReal) (funext fun a => Fin.ext ?_)
  refine (Pipeline.Window.rect_emb_val win1_0 t _ a).trans ?_
  rw [at0]
  match a with
  | ⟨0, _⟩ => exact (by simp [gb] : t.val / 4 * 1 + 0 = (gb t).val)
  | ⟨1, _⟩ => exact (by simp : 0 * 512 + m.val = m.val)
  | ⟨2, _⟩ => exact (by simp : 0 * 4096 + q.val = q.val)

/-- The second window's block at a step is the batch's and row group's slice of the array it views. -/
theorem blk1 (c : Dev nD) (t : Fin cfg1.N) (n : Fin 128) (s f : Fin 64) :
    blkAt W c 1 t (ix4 0 n s f) = (W c (Proc.devRef .tc main_arg0) : S4x512x64x64.Idx → EReal) (ix4 (gb t) (gn t n) s f) := by
  refine congrArg (W c (Proc.devRef .tc main_arg0) : S4x512x64x64.Idx → EReal) (funext fun a => Fin.ext ?_)
  refine (Pipeline.Window.rect_emb_val win1_1 t _ a).trans ?_
  rw [at1]
  match a with
  | ⟨0, _⟩ => exact (by simp [gb] : t.val / 4 * 1 + 0 = (gb t).val)
  | ⟨1, _⟩ => exact (rfl : t.val % 4 * 128 + n.val = (gn t n).val)
  | ⟨2, _⟩ => exact (by simp : 0 * 64 + s.val = s.val)
  | ⟨3, _⟩ => exact (by simp : 0 * 64 + f.val = f.val)

/-- The third window's block at a step is the row group's slice of the array it views. -/
theorem blk2 (c : Dev nD) (t : Fin cfg1.N) (n : Fin 128) (m : Fin 512) :
    blkAt W c 2 t (ix2 n m) = (W c (Proc.devRef .tc main_v1) : S512x512.Idx → EReal) (ix2 (gn t n) m) := by
  refine congrArg (W c (Proc.devRef .tc main_v1) : S512x512.Idx → EReal) (funext fun a => Fin.ext ?_)
  refine (Pipeline.Window.rect_emb_val win1_2 t _ a).trans ?_
  rw [at2]
  match a with
  | ⟨0, _⟩ => exact (rfl : t.val % 4 * 128 + n.val = (gn t n).val)
  | ⟨1, _⟩ => exact (by simp : 0 * 512 + m.val = m.val)

/-- Window 3's block is the whole of its array at every step. -/
theorem whole3 (c : Dev nD) (t : Fin cfg1.N) : blkAt W c 3 t = (W c (Proc.devRef .tc main_v2) : S64x64.Idx → EReal) :=
  funext fun y => congrArg (W c (Proc.devRef .tc main_v2) : S64x64.Idx → EReal)
    (funext fun a => Fin.ext (Pipeline.Window.rect_emb_val_of_index_zero win1_3 t a ((by decide +kernel : ∀ t a, win1_3.index t a = 0) t a) y))

/-- Window 4's block is the whole of its array at every step. -/
theorem whole4 (c : Dev nD) (t : Fin cfg1.N) : blkAt W c 4 t = (W c (Proc.devRef .tc main_arg3) : S64x64.Idx → EReal) :=
  funext fun y => congrArg (W c (Proc.devRef .tc main_arg3) : S64x64.Idx → EReal)
    (funext fun a => Fin.ext (Pipeline.Window.rect_emb_val_of_index_zero win1_4 t a ((by decide +kernel : ∀ t a, win1_4.index t a = 0) t a) y))

/-- Window 5's block is the whole of its array at every step. -/
theorem whole5 (c : Dev nD) (t : Fin cfg1.N) : blkAt W c 5 t = (W c (Proc.devRef .tc main_arg4) : S64x64.Idx → EReal) :=
  funext fun y => congrArg (W c (Proc.devRef .tc main_arg4) : S64x64.Idx → EReal)
    (funext fun a => Fin.ext (Pipeline.Window.rect_emb_val_of_index_zero win1_5 t a ((by decide +kernel : ∀ t a, win1_5.index t a = 0) t a) y))

/-- Window 6's block is the whole of its array at every step. -/
theorem whole6 (c : Dev nD) (t : Fin cfg1.N) : blkAt W c 6 t = (W c (Proc.devRef .tc main_v4) : S1x64.Idx → EReal) :=
  funext fun y => congrArg (W c (Proc.devRef .tc main_v4) : S1x64.Idx → EReal)
    (funext fun a => Fin.ext (Pipeline.Window.rect_emb_val_of_index_zero win1_6 t a ((by decide +kernel : ∀ t a, win1_6.index t a = 0) t a) y))

/-- Window 7's block is the whole of its array at every step. -/
theorem whole7 (c : Dev nD) (t : Fin cfg1.N) : blkAt W c 7 t = (W c (Proc.devRef .tc main_v5) : S128x64.Idx → EReal) :=
  funext fun y => congrArg (W c (Proc.devRef .tc main_v5) : S128x64.Idx → EReal)
    (funext fun a => Fin.ext (Pipeline.Window.rect_emb_val_of_index_zero win1_7 t a ((by decide +kernel : ∀ t a, win1_7.index t a = 0) t a) y))

/-- Window 8's block is the whole of its array at every step. -/
theorem whole8 (c : Dev nD) (t : Fin cfg1.N) : blkAt W c 8 t = (W c (Proc.devRef .tc main_v6) : S1x64.Idx → EReal) :=
  funext fun y => congrArg (W c (Proc.devRef .tc main_v6) : S1x64.Idx → EReal)
    (funext fun a => Fin.ext (Pipeline.Window.rect_emb_val_of_index_zero win1_8 t a ((by decide +kernel : ∀ t a, win1_8.index t a = 0) t a) y))

/-- Window 9's block is the whole of its array at every step. -/
theorem whole9 (c : Dev nD) (t : Fin cfg1.N) : blkAt W c 9 t = (W c (Proc.devRef .tc main_v7) : S3x64x64.Idx → EReal) :=
  funext fun y => congrArg (W c (Proc.devRef .tc main_v7) : S3x64x64.Idx → EReal)
    (funext fun a => Fin.ext (Pipeline.Window.rect_emb_val_of_index_zero win1_9 t a ((by decide +kernel : ∀ t a, win1_9.index t a = 0) t a) y))

/-- Window 10's block is the whole of its array at every step. -/
theorem whole10 (c : Dev nD) (t : Fin cfg1.N) : blkAt W c 10 t = (W c (Proc.devRef .tc main_v8) : S5x64x64.Idx → EReal) :=
  funext fun y => congrArg (W c (Proc.devRef .tc main_v8) : S5x64x64.Idx → EReal)
    (funext fun a => Fin.ext (Pipeline.Window.rect_emb_val_of_index_zero win1_10 t a ((by decide +kernel : ∀ t a, win1_10.index t a = 0) t a) y))

/-- Window 11's block is the whole of its array at every step. -/
theorem whole11 (c : Dev nD) (t : Fin cfg1.N) : blkAt W c 11 t = (W c (Proc.devRef .tc main_v9) : S64x64.Idx → EReal) :=
  funext fun y => congrArg (W c (Proc.devRef .tc main_v9) : S64x64.Idx → EReal)
    (funext fun a => Fin.ext (Pipeline.Window.rect_emb_val_of_index_zero win1_11 t a ((by decide +kernel : ∀ t a, win1_11.index t a = 0) t a) y))

/-- Window 12's block is the whole of its array at every step. -/
theorem whole12 (c : Dev nD) (t : Fin cfg1.N) : blkAt W c 12 t = (W c (Proc.devRef .tc main_v10) : S64x64.Idx → EReal) :=
  funext fun y => congrArg (W c (Proc.devRef .tc main_v10) : S64x64.Idx → EReal)
    (funext fun a => Fin.ext (Pipeline.Window.rect_emb_val_of_index_zero win1_12 t a ((by decide +kernel : ∀ t a, win1_12.index t a = 0) t a) y))

/-- Window 13's block is the whole of its array at every step. -/
theorem whole13 (c : Dev nD) (t : Fin cfg1.N) : blkAt W c 13 t = (W c (Proc.devRef .tc main_v11) : S64x64.Idx → EReal) :=
  funext fun y => congrArg (W c (Proc.devRef .tc main_v11) : S64x64.Idx → EReal)
    (funext fun a => Fin.ext (Pipeline.Window.rect_emb_val_of_index_zero win1_13 t a ((by decide +kernel : ∀ t a, win1_13.index t a = 0) t a) y))

/-- Window 14's block is the whole of its array at every step. -/
theorem whole14 (c : Dev nD) (t : Fin cfg1.N) : blkAt W c 14 t = (W c (Proc.devRef .tc main_v12) : S1x64.Idx → EReal) :=
  funext fun y => congrArg (W c (Proc.devRef .tc main_v12) : S1x64.Idx → EReal)
    (funext fun a => Fin.ext (Pipeline.Window.rect_emb_val_of_index_zero win1_14 t a ((by decide +kernel : ∀ t a, win1_14.index t a = 0) t a) y))

/-- One element of the result from the arrays: the call's sums of products, over the scratch `w`. -/
def kOut (x : S4x512x64x64.Idx → EReal) (xf : S4x512x4096.Idx → EReal) (A : S512x512.Idx → EReal) (x9 : S128x64.Idx → EReal)
    (x14 : S64x64.Idx → EReal) (w : S8x64x64.Idx → EReal) (b : Fin 4) (n : Fin 512) (s o : Fin 64) : EReal :=
  x (ix4 b n s o)
      + ((((((((∑ u, Ideal.div (∑ m, A (ix2 n m) * xf (ix3 b m ⟨s.val * 64 + u.val, by omega⟩)) (max (∑ m, A (ix2 n m)) 1) * w (ix3 0 o u))
        + ∑ u, x (ix4 b n s u) * w (ix3 1 o u))
        + ∑ u, pad (fun t => x (ix4 b n t u)) s.val * w (ix3 2 o u))
        + ∑ u, pad (fun t => x (ix4 b n t u)) (s.val + 1) * w (ix3 3 o u))
        + ∑ u, pad (fun t => x (ix4 b n t u)) (s.val + 3) * w (ix3 4 o u))
        + ∑ u, pad (fun t => x (ix4 b n t u)) (s.val + 4) * w (ix3 5 o u))
        + ∑ u, (∑ t, x9 (ix2 ⟨s.val, by omega⟩ t) * x (ix4 b n t u)) * w (ix3 6 o u))
        + ∑ u, (∑ t, x9 (ix2 ⟨64 + s.val, by omega⟩ t) * x (ix4 b n t u)) * x14 (ix2 o u))
      + w (ix3 7 s o)

/-- The scratch, from the arrays. -/
def kScr (c : Dev nD) : S8x64x64.Idx → EReal :=
  tcW (F := Ideal) (W c (Proc.devRef .tc main_v2)) (W c (Proc.devRef .tc main_arg3)) (W c (Proc.devRef .tc main_arg4)) (W c (Proc.devRef .tc main_v4))
    (W c (Proc.devRef .tc main_v6)) (W c (Proc.devRef .tc main_v7)) (W c (Proc.devRef .tc main_v8)) (W c (Proc.devRef .tc main_v9))
    (W c (Proc.devRef .tc main_v10)) (W c (Proc.devRef .tc main_v11)) (W c (Proc.devRef .tc main_v12))

/-- The scratch after the first step is the table of fused weights. -/
theorem scr_eq (c : Dev nD) : scr W c = kScr W c := by
  unfold scr kScr
  rw [whole3, whole4, whole5, whole6, whole8, whole9, whole10, whole11, whole12, whole13, whole14]

/-- One element of the result array. -/
def kArr (c : Dev nD) (b : Fin 4) (n : Fin 512) (s o : Fin 64) : EReal :=
  kOut (W c (Proc.devRef .tc main_arg0)) (W c (Proc.devRef .tc main_v3)) (W c (Proc.devRef .tc main_v1)) (W c (Proc.devRef .tc main_v5))
    (W c (Proc.devRef .tc main_v10)) (kScr W c) b n s o

/-- A grid point's result block at an index: the array's element there. -/
theorem outAt_apply (c : Dev nD) (t : Fin cfg1.N) (n : Fin 128) (s o : Fin 64) :
    outAt W c t (ix4 0 n s o) = kArr W c (gb t) (gn t n) s o := by
  refine (tcOut_apply _ _ _ _ _ _ n s o).trans ?_
  rw [scr_eq, whole7, whole12]
  simp only [blk0, blk1, blk2]
  rfl

/-- The output window's blocks cover the result. -/
theorem covers : win1_15.Covers := by decide +kernel

/-- The result array the call leaves. -/
theorem wout_arr (c : Dev nD) :
    (Wout W c (Proc.devRef .tc main_v13) : S4x512x64x64.Idx → EReal) = fun i => kArr W c (i 0) (i 1) (i 2) (i 3) := by
  unfold Wout
  rw [Function.update_self]
  refine (dat1 W c).arrAt_eq_of_covers 15 (fun i : S4x512x64x64.Idx => kArr W c (i 0) (i 1) (i 2) (i 3)) covers fun t hf y => ?_
  have hy : ∀ y : S1x128x64x64.Idx, y = ix4 0 (y 1) (y 2) (y 3) := fun y => funext fun a => by
    match a with
    | ⟨0, _⟩ => exact Fin.ext (by have := (y 0).isLt; change (y 0).val < 1 at this; change (y 0).val = 0; omega)
    | ⟨1, _⟩ => rfl
    | ⟨2, _⟩ => rfl
    | ⟨3, _⟩ => rfl
  refine (congrArg (outAt W c t) (hy y)).trans ((outAt_apply W c t _ _ _).trans ?_)
  have e : ∀ a, (((win1_15.rect t).emb y a : Fin _) : ℕ) = (ix4 (gb t) (gn t (y 1)) (y 2) (y 3) : S4x512x64x64.Idx) a := fun a => by
    refine (Pipeline.Window.rect_emb_val win1_15 t y a).trans ?_
    rw [at15]
    match a with
    | ⟨0, _⟩ => exact (by simp [gb] : t.val / 4 * 1 + (y 0).val = (gb t).val)
    | ⟨1, _⟩ => exact (rfl : t.val % 4 * 128 + (y 1).val = (gn t (y 1)).val)
    | ⟨2, _⟩ => exact (by simp : 0 * 64 + (y 2).val = (y 2).val)
    | ⟨3, _⟩ => exact (by simp : 0 * 64 + (y 3).val = (y 3).val)
  have e' : ((win1_15.rect t).emb y : S4x512x64x64.Idx) = ix4 (gb t) (gn t (y 1)) (y 2) (y 3) := funext fun a => Fin.ext (e a)
  exact (congrArg (fun i : S4x512x64x64.Idx => kArr W c (i 0) (i 1) (i 2) (i 3)) e').symm

end Cert.Proof.Adj

end
-- ==== Proof.Operands.lean ====
/-
  The arrays the second call is given, read at an index: the two counted matrices and the arguments, reshaped, sliced,
  transposed or stacked.
-/
module

public import proofs.«01_k».proof.Proof.Main
public import proofs.«01_k».proof.Proof.Count
public import Idealize.ShloMosaic.Lib.Pointwise
public import Idealize.ShloMosaic.Lib.StableHlo.ReadAt

@[expose] public section

set_option maxRecDepth 16384

noncomputable section

namespace Cert.Proof.Adj

open Cert.KernelIdeal Cert.KernelIdeal.Gen
open Idealize.ShloMosaic Idealize.ShloMosaic.TcCoe

/-- The arrays the host's own lines write. -/
def written : List (Ref sig .tc) := [main_v1, main_v2, main_v3, main_v4, main_v5, main_v6, main_v7, main_v8, main_v9, main_v10, main_v11, main_v12]

/-- Each host line writes one of them and no other array. -/
theorem ops_writes {F : FTy → Type} [FloatOps F] : (ops (F := F)).map (fun o => o.writes) = written.map fun w => {Proc.devRef .tc w} := rfl

/-- An argument is as at the start when the second call begins. -/
theorem V2_arg {F : FTy → Type} [FloatOps F] (m : (ℓ : Loc nD τ sig) → Buf (Elt F) ℓ) (c : Dev nD) (b : Ref sig .tc)
    (h : (∀ w ∈ written, Proc.devRef (τ := τ) .tc b ≠ Proc.devRef .tc w) ∧ Proc.devRef (τ := τ) .tc b ≠ a' ∧ Proc.devRef (τ := τ) .tc b ≠ b') :
    V2 m c (Proc.devRef .tc b) = m ((SparseCore.T c).loc b) := by
  refine (StableHlo.after_of_forall_not_mem _ _ fun o ho hb => ?_).trans (V1_of_ne m c _ h.2.1 h.2.2)
  have hm : o.writes ∈ (ops (F := F)).map (fun o => o.writes) := List.mem_map_of_mem (f := fun o : HloOp τ sig (Elt F) => o.writes) ho
  rw [ops_writes] at hm
  obtain ⟨w, hw, e⟩ := List.mem_map.1 hm
  rw [← e] at hb
  exact h.1 w hw (Finset.mem_singleton.1 hb)

variable (m : (ℓ : Loc nD τ sig) → Buf (Elt Ideal) ℓ) (c : Dev nD)

/-- The first count table as a matrix. -/
theorem v1_at (i j : Fin 512) : (V2 m c (Proc.devRef .tc main_v1) : S512x512.Idx → EReal) (ix2 i j) = (V1 m c a' : S262144.Idx → EReal) (ix1 ⟨i.val * 512 + j.val, by omega⟩) := by
  unfold V2 ops
  after_reads_at

/-- The second count table as a matrix. -/
theorem v2_at (i j : Fin 64) : (V2 m c (Proc.devRef .tc main_v2) : S64x64.Idx → EReal) (ix2 i j) = (V1 m c b' : S4096.Idx → EReal) (ix1 ⟨i.val * 64 + j.val, by omega⟩) := by
  unfold V2 ops
  after_reads_at

/-- The source with its last two axes merged. -/
theorem v3_at (b : Fin 4) (n : Fin 512) (s f : Fin 64) : (V2 m c (Proc.devRef .tc main_v3) : S4x512x4096.Idx → EReal) (ix3 b n ⟨s.val * 64 + f.val, by omega⟩)
    = (m ((SparseCore.T c).loc main_arg0) : S4x512x64x64.Idx → EReal) (ix4 b n s f) := by
  rw [← V1_of_ne m c (Proc.devRef .tc main_arg0) (by decide) (by decide)]
  unfold V2 ops
  after_reads_at

/-- The spatial bias as a row. -/
theorem v4_at (i : Fin 64) : (V2 m c (Proc.devRef .tc main_v4) : S1x64.Idx → EReal) (ix2 0 i) = (m ((SparseCore.T c).loc main_arg5) : S64.Idx → EReal) (ix1 i) := by
  rw [← V1_of_ne m c (Proc.devRef .tc main_arg5) (by decide) (by decide)]
  unfold V2 ops
  after_reads_at

/-- The upper half of the stacked feature weights. -/
theorem v5_at_l (s t : Fin 64) : (V2 m c (Proc.devRef .tc main_v5) : S128x64.Idx → EReal) (ix2 ⟨s.val, by omega⟩ t) = (m ((SparseCore.T c).loc main_arg6) : S64x64.Idx → EReal) (ix2 s t) := by
  rw [← V1_of_ne m c (Proc.devRef .tc main_arg6) (by decide) (by decide)]
  unfold V2 ops
  after_reads_at

/-- The lower half of the stacked feature weights. -/
theorem v5_at_r (s t : Fin 64) : (V2 m c (Proc.devRef .tc main_v5) : S128x64.Idx → EReal) (ix2 ⟨64 + s.val, by omega⟩ t) = (m ((SparseCore.T c).loc main_arg7) : S64x64.Idx → EReal) (ix2 s t) := by
  rw [← V1_of_ne m c (Proc.devRef .tc main_arg7) (by decide) (by decide)]
  unfold V2 ops
  after_reads_at

/-- The feature bias as a row. -/
theorem v6_at (i : Fin 64) : (V2 m c (Proc.devRef .tc main_v6) : S1x64.Idx → EReal) (ix2 0 i) = (m ((SparseCore.T c).loc main_arg8) : S64.Idx → EReal) (ix1 i) := by
  rw [← V1_of_ne m c (Proc.devRef .tc main_arg8) (by decide) (by decide)]
  unfold V2 ops
  after_reads_at

/-- The narrow convolution's weights, tap first. -/
theorem v7_at (k : Fin 3) (p f : Fin 64) : (V2 m c (Proc.devRef .tc main_v7) : S3x64x64.Idx → EReal) (ix3 k p f) = (m ((SparseCore.T c).loc main_arg9) : S64x64x3.Idx → EReal) (ix3 p f k) := by
  rw [← V1_of_ne m c (Proc.devRef .tc main_arg9) (by decide) (by decide)]
  unfold V2 ops
  after_reads_at

/-- The wide convolution's weights, tap first. -/
theorem v8_at (k : Fin 5) (p f : Fin 64) : (V2 m c (Proc.devRef .tc main_v8) : S5x64x64.Idx → EReal) (ix3 k p f) = (m ((SparseCore.T c).loc main_arg10) : S64x64x5.Idx → EReal) (ix3 p f k) := by
  rw [← V1_of_ne m c (Proc.devRef .tc main_arg10) (by decide) (by decide)]
  unfold V2 ops
  after_reads_at

/-- The projection's first 64 columns. -/
theorem v9_at (o p : Fin 64) : (V2 m c (Proc.devRef .tc main_v9) : S64x64.Idx → EReal) (ix2 o p) = (m ((SparseCore.T c).loc main_arg11) : S64x192.Idx → EReal) (ix2 o ⟨p.val, by omega⟩) := by
  rw [← V1_of_ne m c (Proc.devRef .tc main_arg11) (by decide) (by decide)]
  unfold V2 ops
  after_reads_at

/-- The projection's middle 64 columns. -/
theorem v10_at (o p : Fin 64) : (V2 m c (Proc.devRef .tc main_v10) : S64x64.Idx → EReal) (ix2 o p) = (m ((SparseCore.T c).loc main_arg11) : S64x192.Idx → EReal) (ix2 o ⟨64 + p.val, by omega⟩) := by
  rw [← V1_of_ne m c (Proc.devRef .tc main_arg11) (by decide) (by decide)]
  unfold V2 ops
  after_reads_at

/-- The projection's last 64 columns. -/
theorem v11_at (o p : Fin 64) : (V2 m c (Proc.devRef .tc main_v11) : S64x64.Idx → EReal) (ix2 o p) = (m ((SparseCore.T c).loc main_arg11) : S64x192.Idx → EReal) (ix2 o ⟨128 + p.val, by omega⟩) := by
  rw [← V1_of_ne m c (Proc.devRef .tc main_arg11) (by decide) (by decide)]
  unfold V2 ops
  after_reads_at

/-- The projection's bias as a row. -/
theorem v12_at (i : Fin 64) : (V2 m c (Proc.devRef .tc main_v12) : S1x64.Idx → EReal) (ix2 0 i) = (m ((SparseCore.T c).loc main_arg12) : S64.Idx → EReal) (ix1 i) := by
  rw [← V1_of_ne m c (Proc.devRef .tc main_arg12) (by decide) (by decide)]
  unfold V2 ops
  after_reads_at

/-- The first matrix counts the edges from `j` to `i`. -/
theorem A_at (he : ∀ j, BitVec.toNat ((m (eLoc c) : S2x4096.Idx → BitVec 32) j) < 512) (i j : Fin 512) :
    (V2 m c (Proc.devRef .tc main_v1) : S512x512.Idx → EReal) (ix2 i j) = count (m (eLoc c) : S2x4096.Idx → BitVec 32) i.val j.val 4096 := by
  rw [v1_at, V1_a]
  refine (outA_count _ he _).trans ?_
  congr 1
  · show (i.val * 512 + j.val) / 512 = _; omega
  · show (i.val * 512 + j.val) % 512 = _; omega

/-- The second count table, element by element: a count of edges. -/
theorem B_at (hg : ∀ j, BitVec.toNat ((m (gLoc c) : S2x512.Idx → BitVec 32) j) < 64) (i j : Fin 64) :
    (V2 m c (Proc.devRef .tc main_v2) : S64x64.Idx → EReal) (ix2 i j) = count (m (gLoc c) : S2x512.Idx → BitVec 32) i.val j.val 512 := by
  rw [v2_at, V1_b]
  refine (outB_count _ hg _).trans ?_
  congr 1
  · show (i.val * 64 + j.val) / 64 = _; omega
  · show (i.val * 64 + j.val) % 64 = _; omega

end Cert.Proof.Adj

end
-- ==== Proof.Lift.lean ====
/-
  Both programs' results over finite arguments: the same real number, hence the same value.
-/
module

public import proofs.«01_k».proof.Proof.Reals
public import proofs.«01_k».proof.Proof.RefVal
public import proofs.«01_k».proof.Proof.ArrVal
public import proofs.«01_k».proof.Proof.Operands

@[expose] public section

set_option maxRecDepth 16384

noncomputable section

namespace Cert.Proof.Adj

open Cert.KernelIdeal Cert.KernelIdeal.Gen
open Idealize.ShloMosaic Idealize.ShloMosaic.TcCoe

/-! ## Real numbers among the extended reals -/

/-- A finite sum of reals, among the extended reals. -/
theorem coe_sum {ι : Type} [Fintype ι] (f : ι → ℝ) : ((∑ i, f i : ℝ) : EReal) = ∑ i, (f i : EReal) := by
  have : ∀ s : Finset ι, ((∑ i ∈ s, f i : ℝ) : EReal) = ∑ i ∈ s, (f i : EReal) := fun s => by
    classical
    induction s using Finset.induction_on with
    | empty => simp
    | insert a s ha ih => rw [Finset.sum_insert ha, Finset.sum_insert ha, EReal.coe_add, ih]
  exact this _

/-- A real over a real that is at least one, among the extended reals. -/
theorem coe_div_max (a d : ℝ) : ((a / max d 1 : ℝ) : EReal) = Ideal.div a (max (d : EReal) 1) := by
  have h : max d 1 ≠ 0 := (lt_of_lt_of_le one_pos (le_max_right d 1)).ne'
  have e : max (d : EReal) 1 = ((max d 1 : ℝ) : EReal) := (EReal.coe_strictMono.monotone.map_max (a := d) (b := 1)).symm
  rw [e, Ideal.div_coe h, ← EReal.coe_mul, mul_one_div]

/-- A real or zero by a condition, among the extended reals. -/
theorem coe_ite (c : Prop) [Decidable c] (a : ℝ) : ((if c then a else 0 : ℝ) : EReal) = if c then (a : EReal) else 0 := by
  split <;> rfl

/-- A padded sequence of reals, among the extended reals. -/
theorem coe_pad (Y : Fin 64 → ℝ) (q : ℕ) : ((pad Y q : ℝ) : EReal) = pad (fun t => (Y t : EReal)) q := by
  unfold pad
  split <;> rfl

/-- A count of edges is a real. -/
theorem coe_cnt {N : ℕ} (e : (⟨2, ![2, N]⟩ : Shape).Idx → BitVec 32) (r c : ℕ) :
    count e r c N = ((cnt (fun k : Fin N => word e 0 k.val) (fun k : Fin N => word e 1 k.val) r c : ℝ) : EReal) := by
  unfold cnt count hit
  rw [coe_sum, Finset.sum_range]
  exact Finset.sum_congr rfl fun k _ => ((coe_ite _ 1).trans (by simp)).symm

/-- A finite summand and any other are multiplied by a real number one by one. -/
theorem add_mul_real (s g : ℝ) (b : EReal) : ((s : EReal) + b) * g = ((s * g : ℝ) : EReal) + b * g := by
  induction b using EReal.rec with
  | coe r => rw [← EReal.coe_add, ← EReal.coe_mul, ← EReal.coe_mul, ← EReal.coe_add, add_mul]
  | top =>
    rcases lt_trichotomy g 0 with h | h | h
    · rw [EReal.coe_add_top, EReal.top_mul_coe_of_neg h, EReal.add_bot]
    · subst h
      simp
    · rw [EReal.coe_add_top, EReal.top_mul_coe_of_pos h, EReal.coe_add_top]
  | bot =>
    rcases lt_trichotomy g 0 with h | h | h
    · rw [EReal.add_bot, EReal.bot_mul_coe_of_neg h, EReal.coe_add_top]
    · subst h
      simp
    · rw [EReal.add_bot, EReal.bot_mul_coe_of_pos h, EReal.add_bot]

/-- The kernel's terms that need not be real, taken out. -/
theorem kernel_out (x M W K b : EReal) : x + (M + W) + (K + b) = x + M + K + (b + W) := by
  rw [← add_assoc x, add_add_add_comm, add_comm W b]

/-- The reference's terms that need not be real, taken out. -/
theorem reference_out (x A E B W T b : EReal) : x + (A + E + (B + W) + T + b) = x + (A + B + T) + (b + E + W) := by
  rw [add_add_add_comm A E B W, add_right_comm (A + B) (E + W) T, add_assoc (A + B + T) (E + W) b, add_comm (E + W) b, add_assoc b E W, add_assoc x]

section

variable (m : (ℓ : Loc nD τ sig) → Buf (Elt Ideal) ℓ) (c : Dev nD)
  (x : S4x512x64x64.Idx → ℝ) (Wl Wr Wfl : S64x64.Idx → ℝ) (Wfr : S64x64.Idx → EReal) (bg fcb : S64.Idx → EReal) (bfg : S64.Idx → ℝ) (c1 : S64x64x3.Idx → ℝ) (c2 : S64x64x5.Idx → ℝ) (fc : S64x192.Idx → ℝ)

/-- The device's float arguments are these real numbers, and these extended reals for the three that need not be. -/
structure Reals : Prop where
  a0 : ∀ i, (m ((SparseCore.T c).loc main_arg0) : S4x512x64x64.Idx → EReal) i = ((x i : ℝ) : EReal)
  a3 : ∀ i, (m ((SparseCore.T c).loc main_arg3) : S64x64.Idx → EReal) i = ((Wl i : ℝ) : EReal)
  a4 : ∀ i, (m ((SparseCore.T c).loc main_arg4) : S64x64.Idx → EReal) i = ((Wr i : ℝ) : EReal)
  a5 : ∀ i, (m ((SparseCore.T c).loc main_arg5) : S64.Idx → EReal) i = bg i
  a6 : ∀ i, (m ((SparseCore.T c).loc main_arg6) : S64x64.Idx → EReal) i = ((Wfl i : ℝ) : EReal)
  a7 : ∀ i, (m ((SparseCore.T c).loc main_arg7) : S64x64.Idx → EReal) i = Wfr i
  a8 : ∀ i, (m ((SparseCore.T c).loc main_arg8) : S64.Idx → EReal) i = ((bfg i : ℝ) : EReal)
  a9 : ∀ i, (m ((SparseCore.T c).loc main_arg9) : S64x64x3.Idx → EReal) i = ((c1 i : ℝ) : EReal)
  a10 : ∀ i, (m ((SparseCore.T c).loc main_arg10) : S64x64x5.Idx → EReal) i = ((c2 i : ℝ) : EReal)
  a11 : ∀ i, (m ((SparseCore.T c).loc main_arg11) : S64x192.Idx → EReal) i = ((fc i : ℝ) : EReal)
  a12 : ∀ i, (m ((SparseCore.T c).loc main_arg12) : S64.Idx → EReal) i = fcb i

/-- The kernel's result over real arguments. -/
theorem kernel_real (R : Reals m c x Wl Wr Wfl Wfr bg fcb bfg c1 c2 fc)
    (he : ∀ j, BitVec.toNat ((m (eLoc c) : S2x4096.Idx → BitVec 32) j) < 512) (hg : ∀ j, BitVec.toNat ((m (gLoc c) : S2x512.Idx → BitVec 32) j) < 64)
    (A : ℕ → ℕ → ℝ) (hA : ∀ r k, count (m (eLoc c) : S2x4096.Idx → BitVec 32) r k 4096 = (A r k : EReal))
    (B : ℕ → ℕ → ℝ) (hB : ∀ r k, count (m (gLoc c) : S2x512.Idx → BitVec 32) r k 512 = (B r k : EReal))
    (b : Fin 4) (n : Fin 512) (s o : Fin 64) :
    kArr (V2 m) c b n s o = ((x (ix4 b n s o) + (((((((∑ u : Fin 64, (∑ k : Fin 512, A n.val k.val * x (ix4 b k s u)) / max (∑ k : Fin 512, A n.val k.val) 1 * ∑ p : Fin 64, fc (ix2 o ⟨p.val, by omega⟩) * Wl (ix2 p u))
        + ∑ u, x (ix4 b n s u) * (∑ p : Fin 64, fc (ix2 o ⟨p.val, by omega⟩) * Wr (ix2 p u) + (∑ p : Fin 64, fc (ix2 o ⟨128 + p.val, by omega⟩) * c2 (ix3 p u 2) + ∑ p : Fin 64, fc (ix2 o ⟨128 + p.val, by omega⟩) * c1 (ix3 p u 1))))
        + ∑ u, pad (fun t => x (ix4 b n t u)) s.val * ∑ p : Fin 64, fc (ix2 o ⟨128 + p.val, by omega⟩) * c2 (ix3 p u 0))
        + ∑ u, pad (fun t => x (ix4 b n t u)) (s.val + 1) * (∑ p : Fin 64, fc (ix2 o ⟨128 + p.val, by omega⟩) * c2 (ix3 p u 1) + ∑ p : Fin 64, fc (ix2 o ⟨128 + p.val, by omega⟩) * c1 (ix3 p u 0)))
        + ∑ u, pad (fun t => x (ix4 b n t u)) (s.val + 3) * (∑ p : Fin 64, fc (ix2 o ⟨128 + p.val, by omega⟩) * c2 (ix3 p u 3) + ∑ p : Fin 64, fc (ix2 o ⟨128 + p.val, by omega⟩) * c1 (ix3 p u 2)))
        + ∑ u, pad (fun t => x (ix4 b n t u)) (s.val + 4) * ∑ p : Fin 64, fc (ix2 o ⟨128 + p.val, by omega⟩) * c2 (ix3 p u 4))
        + ∑ u : Fin 64, (∑ t, Wfl (ix2 s t) * x (ix4 b n t u)) * ∑ v : Fin 64, fc (ix2 o ⟨64 + v.val, by omega⟩) * (B v.val u.val / max (∑ w : Fin 64, B v.val w.val) 1))
      + bfg (ix1 s) * ∑ v : Fin 64, fc (ix2 o ⟨64 + v.val, by omega⟩) : ℝ) : EReal)
      + (fcb (ix1 o) + ∑ p : Fin 64, bg (ix1 p) * ((fc (ix2 o ⟨p.val, by omega⟩) : ℝ) : EReal) + ∑ u : Fin 64, (∑ t : Fin 64, Wfr (ix2 s t) * ((x (ix4 b n t u) : ℝ) : EReal)) * ((fc (ix2 o ⟨64 + u.val, by omega⟩) : ℝ) : EReal)) := by
  have h0 : ∀ i, (V2 m c (Proc.devRef .tc main_arg0) : S4x512x64x64.Idx → EReal) i = ((x i : ℝ) : EReal) := fun i => (congrFun (V2_arg m c main_arg0 (by decide)) i).trans (R.a0 i)
  have h3 : ∀ i, (V2 m c (Proc.devRef .tc main_arg3) : S64x64.Idx → EReal) i = ((Wl i : ℝ) : EReal) := fun i => (congrFun (V2_arg m c main_arg3 (by decide)) i).trans (R.a3 i)
  have h4 : ∀ i, (V2 m c (Proc.devRef .tc main_arg4) : S64x64.Idx → EReal) i = ((Wr i : ℝ) : EReal) := fun i => (congrFun (V2_arg m c main_arg4 (by decide)) i).trans (R.a4 i)
  unfold kArr kOut kScr
  simp only [tcW0, tcW1, tcW2, tcW3, tcW4, tcW5, tcW6, tcW7]
  simp only [A_at m c he, B_at m c hg, h0, h3, h4, hA, hB]
  simp only [fun b n s f => (v3_at m c b n s f).trans (R.a0 _), fun i => (v4_at m c i).trans (R.a5 _), fun s t => (v5_at_l m c s t).trans (R.a6 _), fun s t => (v5_at_r m c s t).trans (R.a7 _), fun i => (v6_at m c i).trans (R.a8 _),
    fun k p f => (v7_at m c k p f).trans (R.a9 _), fun k p f => (v8_at m c k p f).trans (R.a10 _), fun o p => (v9_at m c o p).trans (R.a11 _), fun o p => (v10_at m c o p).trans (R.a11 _), fun o p => (v11_at m c o p).trans (R.a11 _), fun i => (v12_at m c i).trans (R.a12 _)]
  simp only [EReal.coe_add, coe_sum, EReal.coe_mul, coe_div_max, coe_pad]
  exact kernel_out _ _ _ _ _

/-- The kernel's result and the reference's agree where the float arguments are real numbers and the edge lists in range. -/
theorem kernel_ref (R : Reals m c x Wl Wr Wfl Wfr bg fcb bfg c1 c2 fc)
    (he : ∀ j, BitVec.toNat ((m (eLoc c) : S2x4096.Idx → BitVec 32) j) < 512) (hg : ∀ j, BitVec.toNat ((m (gLoc c) : S2x512.Idx → BitVec 32) j) < 64)
    (b : Fin 4) (n : Fin 512) (s o : Fin 64) :
    kArr (V2 m) c b n s o = Cert.ReferenceIdeal.Read.val_main_v147 (F := Ideal) (m ((SparseCore.T c).loc main_arg0) : S4x512x64x64.Idx → EReal)
      (m (eLoc c) : S2x4096.Idx → BitVec 32) (m (gLoc c) : S2x512.Idx → BitVec 32) (m ((SparseCore.T c).loc main_arg3) : S64x64.Idx → EReal)
      (m ((SparseCore.T c).loc main_arg4) : S64x64.Idx → EReal) (m ((SparseCore.T c).loc main_arg5) : S64.Idx → EReal)
      (m ((SparseCore.T c).loc main_arg6) : S64x64.Idx → EReal) (m ((SparseCore.T c).loc main_arg7) : S64x64.Idx → EReal)
      (m ((SparseCore.T c).loc main_arg8) : S64.Idx → EReal) (m ((SparseCore.T c).loc main_arg9) : S64x64x3.Idx → EReal)
      (m ((SparseCore.T c).loc main_arg10) : S64x64x5.Idx → EReal) (m ((SparseCore.T c).loc main_arg11) : S64x192.Idx → EReal)
      (m ((SparseCore.T c).loc main_arg12) : S64.Idx → EReal) (ix4 b n s o) := by
  let e : S2x4096.Idx → BitVec 32 := m (eLoc c)
  let g : S2x512.Idx → BitVec 32 := m (gLoc c)
  let A : ℕ → ℕ → ℝ := cnt (fun k : Fin 4096 => word e 0 k.val) (fun k : Fin 4096 => word e 1 k.val)
  let B : ℕ → ℕ → ℝ := cnt (fun k : Fin 512 => word g 0 k.val) (fun k : Fin 512 => word g 1 k.val)
  have ha (f : Fin 64) := cnt_mul (fun k : Fin 4096 => word e 0 k.val) (fun k : Fin 4096 => word e 1 k.val) (fun k => word_lt (by norm_num) e he 0 k.val) n.val (fun k => x (ix4 b k s f))
  have hd := cnt_sum (fun k : Fin 4096 => word e 0 k.val) (fun k : Fin 4096 => word e 1 k.val) (fun k => word_lt (B := 512) (by norm_num) e he 0 k.val) n.val
  have hb (v t : Fin 64) := cnt_mul (fun k : Fin 512 => word g 0 k.val) (fun k : Fin 512 => word g 1 k.val) (fun k => word_lt (by norm_num) g hg 0 k.val) v.val (fun u => x (ix4 b n t u))
  have hq (v : Fin 64) := cnt_sum (fun k : Fin 512 => word g 0 k.val) (fun k : Fin 512 => word g 1 k.val) (fun k => word_lt (B := 64) (by norm_num) g hg 0 k.val) v.val
  have hsp (p : Fin 64) : Cert.ReferenceIdeal.Read.val_main_v44 (F := Ideal) (m ((SparseCore.T c).loc main_arg0) : S4x512x64x64.Idx → EReal) e (m ((SparseCore.T c).loc main_arg3) : S64x64.Idx → EReal)
      (m ((SparseCore.T c).loc main_arg4) : S64x64.Idx → EReal) (m ((SparseCore.T c).loc main_arg5) : S64.Idx → EReal) (ix4 b n s p)
      = ((∑ f : Fin 64, (∑ k : Fin 512, A n.val k.val * x (ix4 b k s f)) / max (∑ k : Fin 512, A n.val k.val) 1 * Wl (ix2 p f) + ∑ f : Fin 64, x (ix4 b n s f) * Wr (ix2 p f) : ℝ) : EReal) + bg (ix1 p) := by
    refine (sp_apply e _ _ _ _ he b n s p).trans ?_
    simp only [R.a0, R.a3, R.a4, R.a5]
    simp only [A, ha, hd]
    simp only [EReal.coe_add, coe_sum, EReal.coe_mul, coe_div_max, coe_ite, EReal.coe_one]
  have hfe (v : Fin 64) : Cert.ReferenceIdeal.Read.val_main_v89 (F := Ideal) (m ((SparseCore.T c).loc main_arg0) : S4x512x64x64.Idx → EReal) g (m ((SparseCore.T c).loc main_arg6) : S64x64.Idx → EReal)
      (m ((SparseCore.T c).loc main_arg7) : S64x64.Idx → EReal) (m ((SparseCore.T c).loc main_arg8) : S64.Idx → EReal) (ix4 b n s v)
      = ((∑ t : Fin 64, (∑ u : Fin 64, B v.val u.val * x (ix4 b n t u)) / max (∑ w : Fin 64, B v.val w.val) 1 * Wfl (ix2 s t) + bfg (ix1 s) : ℝ) : EReal)
        + ∑ t : Fin 64, Wfr (ix2 s t) * ((x (ix4 b n t v) : ℝ) : EReal) := by
    refine (fe_apply g _ _ _ _ hg b n s v).trans ?_
    simp only [R.a0, R.a6, R.a7, R.a8]
    simp only [B, hb, hq]
    simp only [EReal.coe_add, coe_sum, EReal.coe_mul, coe_div_max, coe_ite, EReal.coe_one]
    rw [add_right_comm]
    exact congrArg (_ + ·) (Finset.sum_congr rfl fun t _ => mul_comm _ _)
  refine (kernel_real m c x Wl Wr Wfl Wfr bg fcb bfg c1 c2 fc R he hg A (coe_cnt e) B (coe_cnt g) b n s o).trans ?_
  refine (congrArg (fun r : ℝ => (r : EReal) + (fcb (ix1 o) + ∑ p : Fin 64, bg (ix1 p) * ((fc (ix2 o ⟨p.val, by omega⟩) : ℝ) : EReal) + ∑ u : Fin 64, (∑ t : Fin 64, Wfr (ix2 s t) * ((x (ix4 b n t u) : ℝ) : EReal)) * ((fc (ix2 o ⟨64 + u.val, by omega⟩) : ℝ) : EReal))) (sums_agree (fun u => (∑ k : Fin 512, A n.val k.val * x (ix4 b k s u)) / max (∑ k : Fin 512, A n.val k.val) 1)
    (fun u => pad (fun t => x (ix4 b n t u)) s.val) (fun u => pad (fun t => x (ix4 b n t u)) (s.val + 1)) (fun u => x (ix4 b n s u))
    (fun u => pad (fun t => x (ix4 b n t u)) (s.val + 3)) (fun u => pad (fun t => x (ix4 b n t u)) (s.val + 4))
    (fun p u => Wl (ix2 p u)) (fun p u => Wr (ix2 p u)) (fun p u => c1 (ix3 p u 0)) (fun p u => c1 (ix3 p u 1)) (fun p u => c1 (ix3 p u 2))
    (fun p u => c2 (ix3 p u 0)) (fun p u => c2 (ix3 p u 1)) (fun p u => c2 (ix3 p u 2)) (fun p u => c2 (ix3 p u 3)) (fun p u => c2 (ix3 p u 4))
    (fun p => fc (ix2 o ⟨p.val, by omega⟩)) (fun p => fc (ix2 o ⟨64 + p.val, by omega⟩)) (fun p => fc (ix2 o ⟨128 + p.val, by omega⟩))
    (fun v u => B v.val u.val) (fun v => max (∑ w : Fin 64, B v.val w.val) 1) (fun t u => x (ix4 b n t u)) (fun t => Wfl (ix2 s t))
    (bfg (ix1 s)) (x (ix4 b n s o)))).trans ?_
  refine Eq.trans ?_ (out_apply e g _ _ _ _ _ _ _ _ _ _ _ b n s o).symm
  simp only [hsp, hfe, R.a0, R.a11, R.a12]
  simp only [add_mul_real, Finset.sum_add_distrib, reference_out]
  refine congrArg (fun r : EReal => r + (fcb (ix1 o) + ∑ p : Fin 64, bg (ix1 p) * ((fc (ix2 o ⟨p.val, by omega⟩) : ℝ) : EReal) + ∑ u : Fin 64, (∑ t : Fin 64, Wfr (ix2 s t) * ((x (ix4 b n t u) : ℝ) : EReal)) * ((fc (ix2 o ⟨64 + u.val, by omega⟩) : ℝ) : EReal))) ?_
  simp only [te_apply]
  simp only [R.a0, R.a9, R.a10]
  simp only [EReal.coe_add, coe_sum, EReal.coe_mul, coe_pad]

end

end Cert.Proof.Adj

end
-- ==== Proof.Same.lean ====
/-
  The kernel's two readings are one program: the body tables agree label by label, so a run of one is a run of the other.
-/
module

public import proofs.«01_k».proof.Defs
public import proofs.«01_k».proof.Proof.Gen.Kernel
public import proofs.«01_k».proof.Proof.Gen.KernelIdeal

@[expose] public section

noncomputable section

namespace Cert.Proof.Adj

open Idealize.ShloMosaic Idealize.SL.Sem

variable {F : FTy → Type} [FloatOps F]

/-- The SparseCore body is the same. -/
theorem adj_same : Cert.Kernel.cc0__adj_body (F := F) = Cert.KernelIdeal.cc0__adj_body (F := F) := rfl

/-- The TensorCore body is the same. -/
theorem fused_same : Cert.Kernel.cc1__fused_body (F := F) = Cert.KernelIdeal.cc1__fused_body (F := F) := rfl

/-- The TensorCore's entry at the grid's label. -/
theorem grid_same (a : Cert.Kernel.Λ₀.Args (1 : Fin 2)) : Cert.Kernel.defs₀ (F := F) .tc (1 : Fin 2) a = Cert.KernelIdeal.defs₀ (F := F) .tc (1 : Fin 2) a := by
  obtain ⟨t, s⟩ := a
  unfold Cert.Kernel.defs₀ Cert.KernelIdeal.defs₀
  dsimp only
  rw [fused_same]
  rfl

/-- A scalar subcore's entry at the grid's label. -/
theorem grid_scalar (c) (a : Cert.Kernel.Λ₀.Args (1 : Fin 2)) : Cert.Kernel.defs₀ (F := F) (.scScalar c) (1 : Fin 2) a = Cert.KernelIdeal.defs₀ (F := F) (.scScalar c) (1 : Fin 2) a := by
  unfold Cert.Kernel.defs₀ Cert.KernelIdeal.defs₀
  dsimp only
  rfl

/-- A vector subcore's entry at the grid's label. -/
theorem grid_vector (c s) (a : Cert.Kernel.Λ₀.Args (1 : Fin 2)) : Cert.Kernel.defs₀ (F := F) (.scVector c s) (1 : Fin 2) a = Cert.KernelIdeal.defs₀ (F := F) (.scVector c s) (1 : Fin 2) a := by
  unfold Cert.Kernel.defs₀ Cert.KernelIdeal.defs₀
  dsimp only
  rfl

/-- The TensorCore's entry at the tasks' label. -/
theorem task_core (a) : Cert.Kernel.defs₀ (F := F) .tc (0 : Fin 2) a = Cert.KernelIdeal.defs₀ (F := F) .tc (0 : Fin 2) a := by
  unfold Cert.Kernel.defs₀ Cert.KernelIdeal.defs₀
  dsimp only
  rfl

/-- A scalar subcore's entry at the tasks' label. -/
theorem task_scalar (c a) : Cert.Kernel.defs₀ (F := F) (.scScalar c) (0 : Fin 2) a = Cert.KernelIdeal.defs₀ (F := F) (.scScalar c) (0 : Fin 2) a := by
  unfold Cert.Kernel.defs₀ Cert.KernelIdeal.defs₀
  dsimp only
  rfl

/-- A vector subcore's entry at the tasks' label. -/
theorem task_vector (c s a) : Cert.Kernel.defs₀ (F := F) (.scVector c s) (0 : Fin 2) a = Cert.KernelIdeal.defs₀ (F := F) (.scVector c s) (0 : Fin 2) a := by
  unfold Cert.Kernel.defs₀ Cert.KernelIdeal.defs₀
  dsimp only
  rw [adj_same]
  rfl

/-- Every processor's entry at the grid's label. -/
theorem grid_all (p : Proc Cert.Kernel.τ) (a : Cert.Kernel.Λ₀.Args (1 : Fin 2)) : Cert.Kernel.defs₀ (F := F) p (1 : Fin 2) a = Cert.KernelIdeal.defs₀ (F := F) p (1 : Fin 2) a := by
  rcases p with _ | c | ⟨c, s⟩
  · exact grid_same a
  · exact grid_scalar c a
  · exact grid_vector c s a

/-- Every processor's entry at the tasks' label. -/
theorem task_all (p : Proc Cert.Kernel.τ) (a : Cert.Kernel.Λ₀.Args (0 : Fin 2)) : Cert.Kernel.defs₀ (F := F) p (0 : Fin 2) a = Cert.KernelIdeal.defs₀ (F := F) p (0 : Fin 2) a := by
  rcases p with _ | c | ⟨c, s⟩
  · exact task_core a
  · exact task_scalar c a
  · exact task_vector c s a

/-- The kernels' body tables agree. -/
theorem bodies_same : Cert.Kernel.defs₀ (F := F) = Cert.KernelIdeal.defs₀ (F := F) :=
  funext fun p => funext fun l => match l with
    | (0 : Fin 2) => funext (task_all p)
    | (1 : Fin 2) => funext (grid_all p)

/-- The programs' body tables agree. -/
theorem defs_same : Cert.Kernel.defs (F := F) = Cert.KernelIdeal.defs (F := F) :=
  congrArg (fun d => (Cert.KernelIdeal.sc (F := F)).defs (Pipeline.defs Cert.KernelIdeal.pcfgs d)) (bodies_same (F := F))

/-- A run of the one program is a run of the other. -/
theorem run_same (s) (Q) (h : θ_run (Cert.KernelIdeal.defs (F := F)) Cert.KernelIdeal.threads s Q) : θ_run (Cert.Kernel.defs (F := F)) Cert.Kernel.threads s Q := by
  rw [defs_same]
  exact h

end Cert.Proof.Adj

end
-- ==== Proof.Claims.lean ====
/-
  The frames and the value claim, from the kernel's run, the reference's run and the value both compute.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Gen.Pre_finite
public import proofs.«01_k».proof.Proof.Main
public import proofs.«01_k».proof.Proof.Finite
public import proofs.«01_k».proof.Proof.Lift
public import proofs.«01_k».proof.Proof.Same
public import Idealize.ShloMosaic.Lib.Quiescent

@[expose] public section

noncomputable section

namespace Cert.Proof.Adj

open Idealize.ShloMosaic Idealize.SL.Sem

section args

open Cert.KernelIdeal Cert.KernelIdeal.Gen

variable {F : FTy → Type} [FloatOps F]

/-- The last region writes its result array alone. -/
theorem V3_of_ne (m : (ℓ : Loc nD τ sig) → Buf (Elt F) ℓ) (c : Dev nD) (b : DevRef τ sig) (h : b ≠ Proc.devRef .tc main_v13) : V3 m c b = V2 m c b :=
  Function.update_of_ne h _ _

/-- The arguments are as at the start. -/
theorem args_kept (m : (ℓ : Loc nD τ sig) → Buf (Elt F) ℓ) {s : (ℓ : Loc nD τ sig) → Buf (Elt F) ℓ} (c : Dev nD)
    (h : ∀ b ∈ Pipeline.ucRefs τ sig, s (c, b) = V3 m c b) :
    s ((SparseCore.T c).loc main_arg0) = m ((SparseCore.T c).loc main_arg0) ∧ s ((SparseCore.T c).loc main_arg1) = m ((SparseCore.T c).loc main_arg1)
    ∧ s ((SparseCore.T c).loc main_arg2) = m ((SparseCore.T c).loc main_arg2) ∧ s ((SparseCore.T c).loc main_arg3) = m ((SparseCore.T c).loc main_arg3)
    ∧ s ((SparseCore.T c).loc main_arg4) = m ((SparseCore.T c).loc main_arg4) ∧ s ((SparseCore.T c).loc main_arg5) = m ((SparseCore.T c).loc main_arg5)
    ∧ s ((SparseCore.T c).loc main_arg6) = m ((SparseCore.T c).loc main_arg6) ∧ s ((SparseCore.T c).loc main_arg7) = m ((SparseCore.T c).loc main_arg7)
    ∧ s ((SparseCore.T c).loc main_arg8) = m ((SparseCore.T c).loc main_arg8) ∧ s ((SparseCore.T c).loc main_arg9) = m ((SparseCore.T c).loc main_arg9)
    ∧ s ((SparseCore.T c).loc main_arg10) = m ((SparseCore.T c).loc main_arg10) ∧ s ((SparseCore.T c).loc main_arg11) = m ((SparseCore.T c).loc main_arg11)
    ∧ s ((SparseCore.T c).loc main_arg12) = m ((SparseCore.T c).loc main_arg12) :=
  have one (b : Ref sig .tc) (hb : Proc.devRef (τ := τ) .tc b ∈ Pipeline.ucRefs τ sig ∧ Proc.devRef (τ := τ) .tc b ≠ Proc.devRef .tc main_v13)
      (hw : (∀ w ∈ written, Proc.devRef (τ := τ) .tc b ≠ Proc.devRef .tc w) ∧ Proc.devRef (τ := τ) .tc b ≠ a' ∧ Proc.devRef (τ := τ) .tc b ≠ b') :
      s ((SparseCore.T c).loc b) = m ((SparseCore.T c).loc b) := (h _ hb.1).trans ((V3_of_ne m c _ hb.2).trans (V2_arg m c b hw))
  ⟨one main_arg0 (by decide) (by decide), one main_arg1 (by decide) (by decide), one main_arg2 (by decide) (by decide), one main_arg3 (by decide) (by decide), one main_arg4 (by decide) (by decide),
    one main_arg5 (by decide) (by decide), one main_arg6 (by decide) (by decide), one main_arg7 (by decide) (by decide), one main_arg8 (by decide) (by decide), one main_arg9 (by decide) (by decide),
    one main_arg10 (by decide) (by decide), one main_arg11 (by decide) (by decide), one main_arg12 (by decide) (by decide)⟩

end args

/-- The kernel at machine floats. -/
theorem frame_kernel : Cert.quiescent_Kernel := fun m ρ hp => run_same (F := Bits) _ _ <|
  (θ_run Cert.KernelIdeal.defs _ _).mono (fun _ h => ⟨fun c => args_kept m c (h.1 c), h.2⟩)
    (run_main (F := Bits) m ρ fun c => ranges_of_fn _ _ _ _ _ _ _ _ _ _ _ _ _ (hp c))

/-- The kernel at ideal floats. -/
theorem frame_kernelIdeal : Cert.quiescent_KernelIdeal := fun m ρ hp =>
  (θ_run Cert.KernelIdeal.defs _ _).mono (fun _ h => ⟨fun c => args_kept m c (h.1 c), h.2⟩)
    (run_main (F := Ideal) m ρ fun c => ranges_of_fn _ _ _ _ _ _ _ _ _ _ _ _ _ (hp c))

/-- The reference at ideal floats. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the value claim's precondition, which the reference's run does not read. -/
theorem frame_reference_finite : Cert.quiescent_ReferenceIdeal_pre_finite := fun m ρ _ => frame_reference m ρ trivial

/-- The kernel at ideal floats under the value claim's precondition. -/
theorem frame_kernelIdeal_finite : Cert.quiescent_KernelIdeal_pre_finite := fun m ρ hp =>
  (θ_run Cert.KernelIdeal.defs _ _).mono (fun _ h => ⟨fun c => args_kept m c (h.1 c), h.2⟩)
    (run_main (F := Ideal) m ρ fun c => (reals_of_fn _ _ _ _ _ _ _ _ _ _ _ _ _ (hp c)).1)

/-- The kernel's result is the reference's, for the same arguments. -/
theorem algebraic : Cert.algebraic_KernelIdeal_ReferenceIdeal_pre_finite := by
  intro m ρ m' ρ' hp ha
  have ok : PreOK m := fun c => (reals_of_fn _ _ _ _ _ _ _ _ _ _ _ _ _ (hp c)).1
  refine ⟨fun c => V3 m c (Proc.devRef .tc Cert.KernelIdeal.main_v13), ?_, ?_⟩
  · exact (θ_run Cert.KernelIdeal.defs _ _).mono (fun r h c => ⟨h.1 c (Proc.devRef .tc Cert.KernelIdeal.main_v13) (by decide), args_kept m c (h.1 c)⟩) (run_main (F := Ideal) m ρ ok)
  · refine (θ_run Cert.ReferenceIdeal.defs _ _).mono (fun r h c => ⟨(h c).1.trans ?_, (h c).2⟩) (Cert.ReferenceIdeal.Value.run (F := Ideal) m' ρ')
    obtain ⟨_, ⟨x, hx⟩, ⟨Wl, h3⟩, ⟨Wr, h4⟩, ⟨Wfl, h6⟩, ⟨bfg, h8⟩, ⟨c1, h9⟩, ⟨c2, h10⟩, ⟨fc, h11⟩⟩ :=
      reals_of_fn _ _ _ _ _ _ _ _ _ _ _ _ _ (hp c)
    obtain ⟨a0, a1, a2, a3, a4, a5, a6, a7, a8, a9, a10, a11, a12⟩ := ha c
    refine (Cert.ReferenceIdeal.Read.val_main_v147_eq m' c).trans ?_
    rw [a0, a1, a2, a3, a4, a5, a6, a7, a8, a9, a10, a11, a12]
    refine ((wout_arr (V2 m) c).trans (funext fun i => ?_)).symm
    refine (kernel_ref m c x Wl Wr Wfl _ _ _ bfg c1 c2 fc ⟨hx, h3, h4, fun _ => rfl, h6, fun _ => rfl, h8, h9, h10, h11, fun _ => rfl⟩ (ok c).1 (ok c).2 (i 0) (i 1) (i 2) (i 3)).trans ?_
    exact congrArg _ (eq_ix4 i).symm

end Cert.Proof.Adj

end
-- ==== Proof.lean ====
/-
  The certificate: every claim, from the kernel's run, the reference's run and the value both compute.
-/
module

public import proofs.«01_k».proof.Proof.Claims

@[expose] public section

namespace Cert.Proof

/-- Everything the certificate claims. -/
theorem claim : Cert.Claim :=
  ⟨Cert.Kernel.Gen.facts, Cert.KernelIdeal.Gen.facts, Cert.ReferenceIdeal.Gen.facts, Cert.Pre_in_range.Gen.facts, Cert.Pre_finite.Gen.facts,
    Adj.frame_kernel, Adj.frame_kernelIdeal, Adj.frame_kernelIdeal_finite, Adj.frame_reference, Adj.frame_reference_finite, trivial, Adj.algebraic⟩

end Cert.Proof

end
